-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S4x2x256x2048 : Shape := ⟨4, ![4, 2, 256, 2048]⟩
abbrev S4x2 : Shape := ⟨2, ![4, 2]⟩
abbrev S4 : Shape := ⟨1, ![4]⟩
abbrev S_ : Shape := ⟨0, ![]⟩
abbrev S256x256 : Shape := ⟨2, ![256, 256]⟩
abbrev S256x2048 : Shape := ⟨2, ![256, 2048]⟩
abbrev S1x1x256x2048 : Shape := ⟨4, ![1, 1, 256, 2048]⟩
abbrev S1x1 : Shape := ⟨2, ![1, 1]⟩

abbrev nBuf : Space → Nat
  | .hbm => 5
  | .vmem => 4
  | .smem => 2
  | _ => 0

abbrev bufTy : (tb : Table) → Fin (tcTables nBuf tb) → BufTy
  | .hbm, ⟨0, _⟩ => ⟨S4096x256, .fp8e4m3⟩
  | .hbm, ⟨1, _⟩ => ⟨S256x8192, .fp8e4m3⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .fp8e4m3⟩
  | .local _ .vmem, ⟨1, _⟩ => ⟨S256x8192, .fp8e4m3⟩
  | .local _ .vmem, ⟨2, _⟩ => ⟨S256x8192, .f32⟩
  | .local _ .vmem, ⟨3, _⟩ => ⟨S4x2x256x2048, .bf16⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 5 21 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_12 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v16 : BitVec 32 := Scalar.addi v2 c32_i32
  let c1_i32_11 : BitVec 32 := 1#32
  let v17 : BitVec 32 := Scalar.subi v16 c1_i32_11
  let v18 : BitVec 32 := Scalar.subi v17 c0_i32_12
  let c16_i32_13 : BitVec 32 := 16#32
  let v19 : BitVec 32 := Scalar.remsi v18 c16_i32_13
  let c256_i32 : BitVec 32 := 256#32
  let v23 : BitVec 32 := Scalar.muli v19 c256_i32
  let v24 : Index := Scalar.indexCast v23
  let c0_17 : Index := 0#32
  ![v24.toNat, 0]
def k0_off2 (d0 : Dev nD) (c0_i32_15 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_14 : BitVec 32 := 1#32
  let v20 : BitVec 32 := Scalar.addi v2 c1_i32_14
  let v21 : BitVec 32 := Scalar.addi v20 c0_i32_15
  let c16_i32_16 : BitVec 32 := 16#32
  let v22 : BitVec 32 := Scalar.remsi v21 c16_i32_16
  let c256_i32_18 : BitVec 32 := 256#32
  let v27 : BitVec 32 := Scalar.muli v22 c256_i32_18
  let v28 : Index := Scalar.indexCast v27
  let c0_19 : Index := 0#32
  ![v28.toNat, 0]
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_40 : BitVec 32 := 1#32
  let v47 : BitVec 32 := Scalar.muli v7 c1_i32_40
  let v48 : BitVec 32 := Scalar.addi c0_i32_41 v47
  v48.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_57 : BitVec 32 := 1#32
  let v61 : BitVec 32 := Scalar.muli v7 c1_i32_57
  let v62 : BitVec 32 := Scalar.addi c0_i32_58 v61
  v62.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_74 : BitVec 32 := 1#32
  let v75 : BitVec 32 := Scalar.muli v5 c1_i32_74
  let v76 : BitVec 32 := Scalar.addi c0_i32_75 v75
  v76.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_90 : BitVec 32 := 1#32
  let v89 : BitVec 32 := Scalar.muli v5 c1_i32_90
  let v90 : BitVec 32 := Scalar.addi c0_i32_91 v89
  v90.toNat
def k0_dev7 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_134 : BitVec 32 := 1#32
  let v134 : BitVec 32 := Scalar.muli v5 c1_i32_134
  let v135 : BitVec 32 := Scalar.addi c0_i32_135 v134
  v135.toNat
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_169 : BitVec 32 := 1#32
  let v154 : BitVec 32 := Scalar.muli v7 c1_i32_169
  let v155 : BitVec 32 := Scalar.addi c0_i32_170 v154
  v155.toNat
def k0_dev9 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_190 : BitVec 32 := 1#32
  let v172 : BitVec 32 := Scalar.muli v5 c1_i32_190
  let v173 : BitVec 32 := Scalar.addi c0_i32_191 v172
  v173.toNat
def k0_dev10 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_225 : BitVec 32 := 1#32
  let v192 : BitVec 32 := Scalar.muli v7 c1_i32_225
  let v193 : BitVec 32 := Scalar.addi c0_i32_226 v192
  v193.toNat
def k0_dev11 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_246 : BitVec 32 := 1#32
  let v210 : BitVec 32 := Scalar.muli v7 c1_i32_246
  let v211 : BitVec 32 := Scalar.addi c0_i32_247 v210
  v211.toNat
def k0_dev12 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_281 : BitVec 32 := 1#32
  let v230 : BitVec 32 := Scalar.muli v5 c1_i32_281
  let v231 : BitVec 32 := Scalar.addi c0_i32_282 v230
  v231.toNat
def k0_dev13 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_302 : BitVec 32 := 1#32
  let v248 : BitVec 32 := Scalar.muli v7 c1_i32_302
  let v249 : BitVec 32 := Scalar.addi c0_i32_303 v248
  v249.toNat
def k0_dev14 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_337 : BitVec 32 := 1#32
  let v268 : BitVec 32 := Scalar.muli v5 c1_i32_337
  let v269 : BitVec 32 := Scalar.addi c0_i32_338 v268
  v269.toNat
def k0_dev15 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_381 : BitVec 32 := 1#32
  let v313 : BitVec 32 := Scalar.muli v5 c1_i32_381
  let v314 : BitVec 32 := Scalar.addi c0_i32_382 v313
  v314.toNat
def k0_dev16 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_416 : BitVec 32 := 1#32
  let v333 : BitVec 32 := Scalar.muli v7 c1_i32_416
  let v334 : BitVec 32 := Scalar.addi c0_i32_417 v333
  v334.toNat
def k0_dev17 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_437 : BitVec 32 := 1#32
  let v351 : BitVec 32 := Scalar.muli v5 c1_i32_437
  let v352 : BitVec 32 := Scalar.addi c0_i32_438 v351
  v352.toNat
def k0_dev18 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_472 : BitVec 32 := 1#32
  let v371 : BitVec 32 := Scalar.muli v7 c1_i32_472
  let v372 : BitVec 32 := Scalar.addi c0_i32_473 v371
  v372.toNat
def k0_dev19 (d0 : Dev nD) : Nat :=
  let c0_i32_494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_493 : BitVec 32 := 1#32
  let v389 : BitVec 32 := Scalar.muli v7 c1_i32_493
  let v390 : BitVec 32 := Scalar.addi c0_i32_494 v389
  v390.toNat
def k0_dev20 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_528 : BitVec 32 := 1#32
  let v409 : BitVec 32 := Scalar.muli v5 c1_i32_528
  let v410 : BitVec 32 := Scalar.addi c0_i32_529 v409
  v410.toNat
def k0_dev21 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_549 : BitVec 32 := 1#32
  let v427 : BitVec 32 := Scalar.muli v7 c1_i32_549
  let v428 : BitVec 32 := Scalar.addi c0_i32_550 v427
  v428.toNat
def k0_dev22 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_584 : BitVec 32 := 1#32
  let v447 : BitVec 32 := Scalar.muli v5 c1_i32_584
  let v448 : BitVec 32 := Scalar.addi c0_i32_585 v447
  v448.toNat
def k0_dev23 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_628 : BitVec 32 := 1#32
  let v492 : BitVec 32 := Scalar.muli v5 c1_i32_628
  let v493 : BitVec 32 := Scalar.addi c0_i32_629 v492
  v493.toNat
def k0_dev24 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_663 : BitVec 32 := 1#32
  let v512 : BitVec 32 := Scalar.muli v7 c1_i32_663
  let v513 : BitVec 32 := Scalar.addi c0_i32_664 v512
  v513.toNat
def k0_dev25 (d0 : Dev nD) : Nat :=
  let c0_i32_685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_684 : BitVec 32 := 1#32
  let v530 : BitVec 32 := Scalar.muli v5 c1_i32_684
  let v531 : BitVec 32 := Scalar.addi c0_i32_685 v530
  v531.toNat
def k0_dev26 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_719 : BitVec 32 := 1#32
  let v550 : BitVec 32 := Scalar.muli v7 c1_i32_719
  let v551 : BitVec 32 := Scalar.addi c0_i32_720 v550
  v551.toNat
def k0_dev27 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_740 : BitVec 32 := 1#32
  let v568 : BitVec 32 := Scalar.muli v7 c1_i32_740
  let v569 : BitVec 32 := Scalar.addi c0_i32_741 v568
  v569.toNat
def k0_dev28 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_775 : BitVec 32 := 1#32
  let v588 : BitVec 32 := Scalar.muli v5 c1_i32_775
  let v589 : BitVec 32 := Scalar.addi c0_i32_776 v588
  v589.toNat
def k0_dev29 (d0 : Dev nD) : Nat :=
  let c0_i32_797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_796 : BitVec 32 := 1#32
  let v606 : BitVec 32 := Scalar.muli v7 c1_i32_796
  let v607 : BitVec 32 := Scalar.addi c0_i32_797 v606
  v607.toNat
def k0_dev30 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_831 : BitVec 32 := 1#32
  let v626 : BitVec 32 := Scalar.muli v5 c1_i32_831
  let v627 : BitVec 32 := Scalar.addi c0_i32_832 v626
  v627.toNat
def k0_dev31 (d0 : Dev nD) : Nat :=
  let c0_i32_875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_874 : BitVec 32 := 1#32
  let v671 : BitVec 32 := Scalar.muli v5 c1_i32_874
  let v672 : BitVec 32 := Scalar.addi c0_i32_875 v671
  v672.toNat
def k0_dev32 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_909 : BitVec 32 := 1#32
  let v691 : BitVec 32 := Scalar.muli v7 c1_i32_909
  let v692 : BitVec 32 := Scalar.addi c0_i32_910 v691
  v692.toNat
def k0_dev33 (d0 : Dev nD) : Nat :=
  let c0_i32_931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_930 : BitVec 32 := 1#32
  let v709 : BitVec 32 := Scalar.muli v5 c1_i32_930
  let v710 : BitVec 32 := Scalar.addi c0_i32_931 v709
  v710.toNat
def k0_dev34 (d0 : Dev nD) : Nat :=
  let c0_i32_966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_965 : BitVec 32 := 1#32
  let v729 : BitVec 32 := Scalar.muli v7 c1_i32_965
  let v730 : BitVec 32 := Scalar.addi c0_i32_966 v729
  v730.toNat
def k0_dev35 (d0 : Dev nD) : Nat :=
  let c0_i32_987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_986 : BitVec 32 := 1#32
  let v747 : BitVec 32 := Scalar.muli v7 c1_i32_986
  let v748 : BitVec 32 := Scalar.addi c0_i32_987 v747
  v748.toNat
def k0_dev36 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1021 : BitVec 32 := 1#32
  let v767 : BitVec 32 := Scalar.muli v5 c1_i32_1021
  let v768 : BitVec 32 := Scalar.addi c0_i32_1022 v767
  v768.toNat
def k0_dev37 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1042 : BitVec 32 := 1#32
  let v785 : BitVec 32 := Scalar.muli v7 c1_i32_1042
  let v786 : BitVec 32 := Scalar.addi c0_i32_1043 v785
  v786.toNat
def k0_dev38 (d0 : Dev nD) : Nat :=
  let c0_i32_1078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1077 : BitVec 32 := 1#32
  let v805 : BitVec 32 := Scalar.muli v5 c1_i32_1077
  let v806 : BitVec 32 := Scalar.addi c0_i32_1078 v805
  v806.toNat
def k0_dev39 (d0 : Dev nD) : Nat :=
  let c0_i32_1121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1120 : BitVec 32 := 1#32
  let v850 : BitVec 32 := Scalar.muli v5 c1_i32_1120
  let v851 : BitVec 32 := Scalar.addi c0_i32_1121 v850
  v851.toNat
def k0_dev40 (d0 : Dev nD) : Nat :=
  let c0_i32_1156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1155 : BitVec 32 := 1#32
  let v870 : BitVec 32 := Scalar.muli v7 c1_i32_1155
  let v871 : BitVec 32 := Scalar.addi c0_i32_1156 v870
  v871.toNat
def k0_dev41 (d0 : Dev nD) : Nat :=
  let c0_i32_1177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1176 : BitVec 32 := 1#32
  let v888 : BitVec 32 := Scalar.muli v5 c1_i32_1176
  let v889 : BitVec 32 := Scalar.addi c0_i32_1177 v888
  v889.toNat
def k0_dev42 (d0 : Dev nD) : Nat :=
  let c0_i32_1212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1211 : BitVec 32 := 1#32
  let v908 : BitVec 32 := Scalar.muli v7 c1_i32_1211
  let v909 : BitVec 32 := Scalar.addi c0_i32_1212 v908
  v909.toNat
def k0_dev43 (d0 : Dev nD) : Nat :=
  let c0_i32_1233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1232 : BitVec 32 := 1#32
  let v926 : BitVec 32 := Scalar.muli v7 c1_i32_1232
  let v927 : BitVec 32 := Scalar.addi c0_i32_1233 v926
  v927.toNat
def k0_dev44 (d0 : Dev nD) : Nat :=
  let c0_i32_1268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1267 : BitVec 32 := 1#32
  let v946 : BitVec 32 := Scalar.muli v5 c1_i32_1267
  let v947 : BitVec 32 := Scalar.addi c0_i32_1268 v946
  v947.toNat
def k0_dev45 (d0 : Dev nD) : Nat :=
  let c0_i32_1289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1288 : BitVec 32 := 1#32
  let v964 : BitVec 32 := Scalar.muli v7 c1_i32_1288
  let v965 : BitVec 32 := Scalar.addi c0_i32_1289 v964
  v965.toNat
def k0_dev46 (d0 : Dev nD) : Nat :=
  let c0_i32_1324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1323 : BitVec 32 := 1#32
  let v984 : BitVec 32 := Scalar.muli v5 c1_i32_1323
  let v985 : BitVec 32 := Scalar.addi c0_i32_1324 v984
  v985.toNat
def k0_dev47 (d0 : Dev nD) : Nat :=
  let c0_i32_1367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1366 : BitVec 32 := 1#32
  let v1029 : BitVec 32 := Scalar.muli v5 c1_i32_1366
  let v1030 : BitVec 32 := Scalar.addi c0_i32_1367 v1029
  v1030.toNat
def k0_dev48 (d0 : Dev nD) : Nat :=
  let c0_i32_1402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1401 : BitVec 32 := 1#32
  let v1049 : BitVec 32 := Scalar.muli v7 c1_i32_1401
  let v1050 : BitVec 32 := Scalar.addi c0_i32_1402 v1049
  v1050.toNat
def k0_dev49 (d0 : Dev nD) : Nat :=
  let c0_i32_1423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1422 : BitVec 32 := 1#32
  let v1067 : BitVec 32 := Scalar.muli v5 c1_i32_1422
  let v1068 : BitVec 32 := Scalar.addi c0_i32_1423 v1067
  v1068.toNat
def k0_dev50 (d0 : Dev nD) : Nat :=
  let c0_i32_1458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1457 : BitVec 32 := 1#32
  let v1087 : BitVec 32 := Scalar.muli v7 c1_i32_1457
  let v1088 : BitVec 32 := Scalar.addi c0_i32_1458 v1087
  v1088.toNat
def k0_dev51 (d0 : Dev nD) : Nat :=
  let c0_i32_1479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1478 : BitVec 32 := 1#32
  let v1105 : BitVec 32 := Scalar.muli v7 c1_i32_1478
  let v1106 : BitVec 32 := Scalar.addi c0_i32_1479 v1105
  v1106.toNat
def k0_dev52 (d0 : Dev nD) : Nat :=
  let c0_i32_1514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1513 : BitVec 32 := 1#32
  let v1125 : BitVec 32 := Scalar.muli v5 c1_i32_1513
  let v1126 : BitVec 32 := Scalar.addi c0_i32_1514 v1125
  v1126.toNat
def k0_dev53 (d0 : Dev nD) : Nat :=
  let c0_i32_1535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1534 : BitVec 32 := 1#32
  let v1143 : BitVec 32 := Scalar.muli v7 c1_i32_1534
  let v1144 : BitVec 32 := Scalar.addi c0_i32_1535 v1143
  v1144.toNat
def k0_dev54 (d0 : Dev nD) : Nat :=
  let c0_i32_1570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1569 : BitVec 32 := 1#32
  let v1163 : BitVec 32 := Scalar.muli v5 c1_i32_1569
  let v1164 : BitVec 32 := Scalar.addi c0_i32_1570 v1163
  v1164.toNat
def k0_dev55 (d0 : Dev nD) : Nat :=
  let c0_i32_1613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1612 : BitVec 32 := 1#32
  let v1208 : BitVec 32 := Scalar.muli v5 c1_i32_1612
  let v1209 : BitVec 32 := Scalar.addi c0_i32_1613 v1208
  v1209.toNat
def k0_dev56 (d0 : Dev nD) : Nat :=
  let c0_i32_1648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1647 : BitVec 32 := 1#32
  let v1228 : BitVec 32 := Scalar.muli v7 c1_i32_1647
  let v1229 : BitVec 32 := Scalar.addi c0_i32_1648 v1228
  v1229.toNat
def k0_dev57 (d0 : Dev nD) : Nat :=
  let c0_i32_1669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1668 : BitVec 32 := 1#32
  let v1246 : BitVec 32 := Scalar.muli v5 c1_i32_1668
  let v1247 : BitVec 32 := Scalar.addi c0_i32_1669 v1246
  v1247.toNat
def k0_dev58 (d0 : Dev nD) : Nat :=
  let c0_i32_1704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1703 : BitVec 32 := 1#32
  let v1266 : BitVec 32 := Scalar.muli v7 c1_i32_1703
  let v1267 : BitVec 32 := Scalar.addi c0_i32_1704 v1266
  v1267.toNat
def k0_dev59 (d0 : Dev nD) : Nat :=
  let c0_i32_1725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1724 : BitVec 32 := 1#32
  let v1284 : BitVec 32 := Scalar.muli v7 c1_i32_1724
  let v1285 : BitVec 32 := Scalar.addi c0_i32_1725 v1284
  v1285.toNat
def k0_dev60 (d0 : Dev nD) : Nat :=
  let c0_i32_1760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1759 : BitVec 32 := 1#32
  let v1304 : BitVec 32 := Scalar.muli v5 c1_i32_1759
  let v1305 : BitVec 32 := Scalar.addi c0_i32_1760 v1304
  v1305.toNat
def k0_dev61 (d0 : Dev nD) : Nat :=
  let c0_i32_1781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1780 : BitVec 32 := 1#32
  let v1322 : BitVec 32 := Scalar.muli v7 c1_i32_1780
  let v1323 : BitVec 32 := Scalar.addi c0_i32_1781 v1322
  v1323.toNat
def k0_dev62 (d0 : Dev nD) : Nat :=
  let c0_i32_1816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1815 : BitVec 32 := 1#32
  let v1342 : BitVec 32 := Scalar.muli v5 c1_i32_1815
  let v1343 : BitVec 32 := Scalar.addi c0_i32_1816 v1342
  v1343.toNat
def k0_dev63 (d0 : Dev nD) : Nat :=
  let c0_i32_1859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1858 : BitVec 32 := 1#32
  let v1387 : BitVec 32 := Scalar.muli v5 c1_i32_1858
  let v1388 : BitVec 32 := Scalar.addi c0_i32_1859 v1387
  v1388.toNat
def k0_dev64 (d0 : Dev nD) : Nat :=
  let c0_i32_1894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1893 : BitVec 32 := 1#32
  let v1407 : BitVec 32 := Scalar.muli v7 c1_i32_1893
  let v1408 : BitVec 32 := Scalar.addi c0_i32_1894 v1407
  v1408.toNat
def k0_dev65 (d0 : Dev nD) : Nat :=
  let c0_i32_1915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1914 : BitVec 32 := 1#32
  let v1425 : BitVec 32 := Scalar.muli v5 c1_i32_1914
  let v1426 : BitVec 32 := Scalar.addi c0_i32_1915 v1425
  v1426.toNat
def k0_dev66 (d0 : Dev nD) : Nat :=
  let c0_i32_1950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1949 : BitVec 32 := 1#32
  let v1445 : BitVec 32 := Scalar.muli v7 c1_i32_1949
  let v1446 : BitVec 32 := Scalar.addi c0_i32_1950 v1445
  v1446.toNat
def k0_dev67 (d0 : Dev nD) : Nat :=
  let c0_i32_1971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1970 : BitVec 32 := 1#32
  let v1463 : BitVec 32 := Scalar.muli v7 c1_i32_1970
  let v1464 : BitVec 32 := Scalar.addi c0_i32_1971 v1463
  v1464.toNat
def k0_dev68 (d0 : Dev nD) : Nat :=
  let c0_i32_2006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2005 : BitVec 32 := 1#32
  let v1483 : BitVec 32 := Scalar.muli v5 c1_i32_2005
  let v1484 : BitVec 32 := Scalar.addi c0_i32_2006 v1483
  v1484.toNat
def k0_dev69 (d0 : Dev nD) : Nat :=
  let c0_i32_2027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2026 : BitVec 32 := 1#32
  let v1501 : BitVec 32 := Scalar.muli v7 c1_i32_2026
  let v1502 : BitVec 32 := Scalar.addi c0_i32_2027 v1501
  v1502.toNat
def k0_dev70 (d0 : Dev nD) : Nat :=
  let c0_i32_2062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2061 : BitVec 32 := 1#32
  let v1521 : BitVec 32 := Scalar.muli v5 c1_i32_2061
  let v1522 : BitVec 32 := Scalar.addi c0_i32_2062 v1521
  v1522.toNat
def k0_dev71 (d0 : Dev nD) : Nat :=
  let c0_i32_2105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2104 : BitVec 32 := 1#32
  let v1566 : BitVec 32 := Scalar.muli v5 c1_i32_2104
  let v1567 : BitVec 32 := Scalar.addi c0_i32_2105 v1566
  v1567.toNat
def k0_dev72 (d0 : Dev nD) : Nat :=
  let c0_i32_2140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2139 : BitVec 32 := 1#32
  let v1586 : BitVec 32 := Scalar.muli v7 c1_i32_2139
  let v1587 : BitVec 32 := Scalar.addi c0_i32_2140 v1586
  v1587.toNat
def k0_dev73 (d0 : Dev nD) : Nat :=
  let c0_i32_2161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2160 : BitVec 32 := 1#32
  let v1604 : BitVec 32 := Scalar.muli v5 c1_i32_2160
  let v1605 : BitVec 32 := Scalar.addi c0_i32_2161 v1604
  v1605.toNat
def k0_dev74 (d0 : Dev nD) : Nat :=
  let c0_i32_2196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2195 : BitVec 32 := 1#32
  let v1624 : BitVec 32 := Scalar.muli v7 c1_i32_2195
  let v1625 : BitVec 32 := Scalar.addi c0_i32_2196 v1624
  v1625.toNat
def k0_dev75 (d0 : Dev nD) : Nat :=
  let c0_i32_2217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2216 : BitVec 32 := 1#32
  let v1642 : BitVec 32 := Scalar.muli v7 c1_i32_2216
  let v1643 : BitVec 32 := Scalar.addi c0_i32_2217 v1642
  v1643.toNat
def k0_dev76 (d0 : Dev nD) : Nat :=
  let c0_i32_2252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2251 : BitVec 32 := 1#32
  let v1662 : BitVec 32 := Scalar.muli v5 c1_i32_2251
  let v1663 : BitVec 32 := Scalar.addi c0_i32_2252 v1662
  v1663.toNat
def k0_dev77 (d0 : Dev nD) : Nat :=
  let c0_i32_2273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2272 : BitVec 32 := 1#32
  let v1680 : BitVec 32 := Scalar.muli v7 c1_i32_2272
  let v1681 : BitVec 32 := Scalar.addi c0_i32_2273 v1680
  v1681.toNat
def k0_dev78 (d0 : Dev nD) : Nat :=
  let c0_i32_2308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2307 : BitVec 32 := 1#32
  let v1700 : BitVec 32 := Scalar.muli v5 c1_i32_2307
  let v1701 : BitVec 32 := Scalar.addi c0_i32_2308 v1700
  v1701.toNat
def k0_dev79 (d0 : Dev nD) : Nat :=
  let c0_i32_2351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2350 : BitVec 32 := 1#32
  let v1745 : BitVec 32 := Scalar.muli v5 c1_i32_2350
  let v1746 : BitVec 32 := Scalar.addi c0_i32_2351 v1745
  v1746.toNat
def k0_dev80 (d0 : Dev nD) : Nat :=
  let c0_i32_2386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2385 : BitVec 32 := 1#32
  let v1765 : BitVec 32 := Scalar.muli v7 c1_i32_2385
  let v1766 : BitVec 32 := Scalar.addi c0_i32_2386 v1765
  v1766.toNat
def k0_dev81 (d0 : Dev nD) : Nat :=
  let c0_i32_2407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2406 : BitVec 32 := 1#32
  let v1783 : BitVec 32 := Scalar.muli v5 c1_i32_2406
  let v1784 : BitVec 32 := Scalar.addi c0_i32_2407 v1783
  v1784.toNat
def k0_dev82 (d0 : Dev nD) : Nat :=
  let c0_i32_2442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2441 : BitVec 32 := 1#32
  let v1803 : BitVec 32 := Scalar.muli v7 c1_i32_2441
  let v1804 : BitVec 32 := Scalar.addi c0_i32_2442 v1803
  v1804.toNat
def k0_dev83 (d0 : Dev nD) : Nat :=
  let c0_i32_2463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2462 : BitVec 32 := 1#32
  let v1821 : BitVec 32 := Scalar.muli v7 c1_i32_2462
  let v1822 : BitVec 32 := Scalar.addi c0_i32_2463 v1821
  v1822.toNat
def k0_dev84 (d0 : Dev nD) : Nat :=
  let c0_i32_2498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2497 : BitVec 32 := 1#32
  let v1841 : BitVec 32 := Scalar.muli v5 c1_i32_2497
  let v1842 : BitVec 32 := Scalar.addi c0_i32_2498 v1841
  v1842.toNat
def k0_dev85 (d0 : Dev nD) : Nat :=
  let c0_i32_2519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2518 : BitVec 32 := 1#32
  let v1859 : BitVec 32 := Scalar.muli v7 c1_i32_2518
  let v1860 : BitVec 32 := Scalar.addi c0_i32_2519 v1859
  v1860.toNat
def k0_dev86 (d0 : Dev nD) : Nat :=
  let c0_i32_2554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2553 : BitVec 32 := 1#32
  let v1879 : BitVec 32 := Scalar.muli v5 c1_i32_2553
  let v1880 : BitVec 32 := Scalar.addi c0_i32_2554 v1879
  v1880.toNat
def k0_dev87 (d0 : Dev nD) : Nat :=
  let c0_i32_2597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2596 : BitVec 32 := 1#32
  let v1924 : BitVec 32 := Scalar.muli v5 c1_i32_2596
  let v1925 : BitVec 32 := Scalar.addi c0_i32_2597 v1924
  v1925.toNat
def k0_dev88 (d0 : Dev nD) : Nat :=
  let c0_i32_2632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2631 : BitVec 32 := 1#32
  let v1944 : BitVec 32 := Scalar.muli v7 c1_i32_2631
  let v1945 : BitVec 32 := Scalar.addi c0_i32_2632 v1944
  v1945.toNat
def k0_dev89 (d0 : Dev nD) : Nat :=
  let c0_i32_2653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2652 : BitVec 32 := 1#32
  let v1962 : BitVec 32 := Scalar.muli v5 c1_i32_2652
  let v1963 : BitVec 32 := Scalar.addi c0_i32_2653 v1962
  v1963.toNat
def k0_dev90 (d0 : Dev nD) : Nat :=
  let c0_i32_2688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2687 : BitVec 32 := 1#32
  let v1982 : BitVec 32 := Scalar.muli v7 c1_i32_2687
  let v1983 : BitVec 32 := Scalar.addi c0_i32_2688 v1982
  v1983.toNat
def k0_dev91 (d0 : Dev nD) : Nat :=
  let c0_i32_2709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2708 : BitVec 32 := 1#32
  let v2000 : BitVec 32 := Scalar.muli v7 c1_i32_2708
  let v2001 : BitVec 32 := Scalar.addi c0_i32_2709 v2000
  v2001.toNat
def k0_dev92 (d0 : Dev nD) : Nat :=
  let c0_i32_2744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2743 : BitVec 32 := 1#32
  let v2020 : BitVec 32 := Scalar.muli v5 c1_i32_2743
  let v2021 : BitVec 32 := Scalar.addi c0_i32_2744 v2020
  v2021.toNat
def k0_dev93 (d0 : Dev nD) : Nat :=
  let c0_i32_2765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2764 : BitVec 32 := 1#32
  let v2038 : BitVec 32 := Scalar.muli v7 c1_i32_2764
  let v2039 : BitVec 32 := Scalar.addi c0_i32_2765 v2038
  v2039.toNat
def k0_dev94 (d0 : Dev nD) : Nat :=
  let c0_i32_2800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2799 : BitVec 32 := 1#32
  let v2058 : BitVec 32 := Scalar.muli v5 c1_i32_2799
  let v2059 : BitVec 32 := Scalar.addi c0_i32_2800 v2058
  v2059.toNat
def k0_dev95 (d0 : Dev nD) : Nat :=
  let c0_i32_2843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2842 : BitVec 32 := 1#32
  let v2103 : BitVec 32 := Scalar.muli v5 c1_i32_2842
  let v2104 : BitVec 32 := Scalar.addi c0_i32_2843 v2103
  v2104.toNat
def k0_dev96 (d0 : Dev nD) : Nat :=
  let c0_i32_2878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2877 : BitVec 32 := 1#32
  let v2123 : BitVec 32 := Scalar.muli v7 c1_i32_2877
  let v2124 : BitVec 32 := Scalar.addi c0_i32_2878 v2123
  v2124.toNat
def k0_dev97 (d0 : Dev nD) : Nat :=
  let c0_i32_2899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2898 : BitVec 32 := 1#32
  let v2141 : BitVec 32 := Scalar.muli v5 c1_i32_2898
  let v2142 : BitVec 32 := Scalar.addi c0_i32_2899 v2141
  v2142.toNat
def k0_dev98 (d0 : Dev nD) : Nat :=
  let c0_i32_2934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2933 : BitVec 32 := 1#32
  let v2161 : BitVec 32 := Scalar.muli v7 c1_i32_2933
  let v2162 : BitVec 32 := Scalar.addi c0_i32_2934 v2161
  v2162.toNat
def k0_dev99 (d0 : Dev nD) : Nat :=
  let c0_i32_2955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2954 : BitVec 32 := 1#32
  let v2179 : BitVec 32 := Scalar.muli v7 c1_i32_2954
  let v2180 : BitVec 32 := Scalar.addi c0_i32_2955 v2179
  v2180.toNat
def k0_dev100 (d0 : Dev nD) : Nat :=
  let c0_i32_2990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2989 : BitVec 32 := 1#32
  let v2199 : BitVec 32 := Scalar.muli v5 c1_i32_2989
  let v2200 : BitVec 32 := Scalar.addi c0_i32_2990 v2199
  v2200.toNat
def k0_dev101 (d0 : Dev nD) : Nat :=
  let c0_i32_3011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3010 : BitVec 32 := 1#32
  let v2217 : BitVec 32 := Scalar.muli v7 c1_i32_3010
  let v2218 : BitVec 32 := Scalar.addi c0_i32_3011 v2217
  v2218.toNat
def k0_dev102 (d0 : Dev nD) : Nat :=
  let c0_i32_3046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3045 : BitVec 32 := 1#32
  let v2237 : BitVec 32 := Scalar.muli v5 c1_i32_3045
  let v2238 : BitVec 32 := Scalar.addi c0_i32_3046 v2237
  v2238.toNat
def k0_dev103 (d0 : Dev nD) : Nat :=
  let c0_i32_3089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3088 : BitVec 32 := 1#32
  let v2282 : BitVec 32 := Scalar.muli v5 c1_i32_3088
  let v2283 : BitVec 32 := Scalar.addi c0_i32_3089 v2282
  v2283.toNat
def k0_dev104 (d0 : Dev nD) : Nat :=
  let c0_i32_3124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3123 : BitVec 32 := 1#32
  let v2302 : BitVec 32 := Scalar.muli v7 c1_i32_3123
  let v2303 : BitVec 32 := Scalar.addi c0_i32_3124 v2302
  v2303.toNat
def k0_dev105 (d0 : Dev nD) : Nat :=
  let c0_i32_3145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3144 : BitVec 32 := 1#32
  let v2320 : BitVec 32 := Scalar.muli v5 c1_i32_3144
  let v2321 : BitVec 32 := Scalar.addi c0_i32_3145 v2320
  v2321.toNat
def k0_dev106 (d0 : Dev nD) : Nat :=
  let c0_i32_3180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3179 : BitVec 32 := 1#32
  let v2340 : BitVec 32 := Scalar.muli v7 c1_i32_3179
  let v2341 : BitVec 32 := Scalar.addi c0_i32_3180 v2340
  v2341.toNat
def k0_dev107 (d0 : Dev nD) : Nat :=
  let c0_i32_3201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3200 : BitVec 32 := 1#32
  let v2358 : BitVec 32 := Scalar.muli v7 c1_i32_3200
  let v2359 : BitVec 32 := Scalar.addi c0_i32_3201 v2358
  v2359.toNat
def k0_dev108 (d0 : Dev nD) : Nat :=
  let c0_i32_3236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3235 : BitVec 32 := 1#32
  let v2378 : BitVec 32 := Scalar.muli v5 c1_i32_3235
  let v2379 : BitVec 32 := Scalar.addi c0_i32_3236 v2378
  v2379.toNat
def k0_dev109 (d0 : Dev nD) : Nat :=
  let c0_i32_3257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3256 : BitVec 32 := 1#32
  let v2396 : BitVec 32 := Scalar.muli v7 c1_i32_3256
  let v2397 : BitVec 32 := Scalar.addi c0_i32_3257 v2396
  v2397.toNat
def k0_dev110 (d0 : Dev nD) : Nat :=
  let c0_i32_3292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3291 : BitVec 32 := 1#32
  let v2416 : BitVec 32 := Scalar.muli v5 c1_i32_3291
  let v2417 : BitVec 32 := Scalar.addi c0_i32_3292 v2416
  v2417.toNat
def k0_dev111 (d0 : Dev nD) : Nat :=
  let c0_i32_3335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3334 : BitVec 32 := 1#32
  let v2461 : BitVec 32 := Scalar.muli v5 c1_i32_3334
  let v2462 : BitVec 32 := Scalar.addi c0_i32_3335 v2461
  v2462.toNat
def k0_dev112 (d0 : Dev nD) : Nat :=
  let c0_i32_3370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3369 : BitVec 32 := 1#32
  let v2481 : BitVec 32 := Scalar.muli v7 c1_i32_3369
  let v2482 : BitVec 32 := Scalar.addi c0_i32_3370 v2481
  v2482.toNat
def k0_dev113 (d0 : Dev nD) : Nat :=
  let c0_i32_3391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3390 : BitVec 32 := 1#32
  let v2499 : BitVec 32 := Scalar.muli v5 c1_i32_3390
  let v2500 : BitVec 32 := Scalar.addi c0_i32_3391 v2499
  v2500.toNat
def k0_dev114 (d0 : Dev nD) : Nat :=
  let c0_i32_3426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3425 : BitVec 32 := 1#32
  let v2519 : BitVec 32 := Scalar.muli v7 c1_i32_3425
  let v2520 : BitVec 32 := Scalar.addi c0_i32_3426 v2519
  v2520.toNat
def k0_dev115 (d0 : Dev nD) : Nat :=
  let c0_i32_3447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3446 : BitVec 32 := 1#32
  let v2537 : BitVec 32 := Scalar.muli v7 c1_i32_3446
  let v2538 : BitVec 32 := Scalar.addi c0_i32_3447 v2537
  v2538.toNat
def k0_dev116 (d0 : Dev nD) : Nat :=
  let c0_i32_3482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3481 : BitVec 32 := 1#32
  let v2557 : BitVec 32 := Scalar.muli v5 c1_i32_3481
  let v2558 : BitVec 32 := Scalar.addi c0_i32_3482 v2557
  v2558.toNat
def k0_dev117 (d0 : Dev nD) : Nat :=
  let c0_i32_3503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3502 : BitVec 32 := 1#32
  let v2575 : BitVec 32 := Scalar.muli v7 c1_i32_3502
  let v2576 : BitVec 32 := Scalar.addi c0_i32_3503 v2575
  v2576.toNat
def k0_dev118 (d0 : Dev nD) : Nat :=
  let c0_i32_3538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3537 : BitVec 32 := 1#32
  let v2595 : BitVec 32 := Scalar.muli v5 c1_i32_3537
  let v2596 : BitVec 32 := Scalar.addi c0_i32_3538 v2595
  v2596.toNat
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.IdealNorm.lean ====
/- The kernel's body written as a loop over ring steps: the same operations in the same order as the printed
   text, the ring, the slot and the step as parameters. `body_eq` states that the two are one program. -/
module

public import proofs.«01_k».proof.Proof.Gen.KernelIdeal

@[expose] public section

set_option maxRecDepth 65536

noncomputable section

namespace Cert.KernelIdeal.Steps

open Idealize.ShloMosaic Idealize.SL.Sem
open Facts₀ Facts

variable {F : FTy → Type} [FloatOps F]

/-! ## In-bounds facts at a symbolic ring and slot -/

/-- A slot's rectangle lies inside the communication buffer. -/
theorem inbSlot (ρ : Fin 4) (b : Fin 2) :
    ∀ a, (![ρ.val, b.val, 0, 0] : Fin 4 → Nat) a + S1x1x256x2048.size a ≤ S4x2x256x2048.size a := by
  revert ρ b; decide

/-- A ring's pair of semaphores: position `(ρ, b)` lies inside the array. -/
theorem inbPair (ρ : Fin 4) (b : Fin 2) : ∀ a, (![ρ.val, b.val] : Fin 2 → Nat) a + S1x1.size a ≤ S4x2.size a := by
  revert ρ b; decide

/-- A ring's credit semaphore lies inside the array. -/
theorem inbOne (ρ : Fin 4) : ∀ a, (![ρ.val] : Fin 1 → Nat) a + S1.size a ≤ S4.size a := by
  revert ρ; decide

/-- A ring's quarter of the weight's columns, and of the output's. -/
theorem inbCol (ρ : Fin 4) : ∀ a, (![0, 2048 * ρ.val] : Fin 2 → Nat) a + S256x2048.size a ≤ S256x8192.size a := by
  revert ρ; decide

/-- A slot of the communication buffer, as a rectangle. -/
abbrev slotRect (ρ : Fin 4) (b : Fin 2) : Rect S4x2x256x2048 :=
  Rect.unit (s := S4x2x256x2048) ![ρ.val, b.val, 0, 0] S1x1x256x2048.size (inbSlot ρ b)

/-- A ring's quarter of the columns, as a rectangle. -/
abbrev colRect (ρ : Fin 4) : Rect S256x8192 :=
  Rect.unit (s := S256x8192) ![0, 2048 * ρ.val] S256x2048.size (inbCol ρ)

variable [Facts]

theorem packedSlot (ρ : Fin 4) (b : Fin 2) : (slotRect ρ b).PackedRows (EltTy.packing .bf16) := by
  match ρ, b with
  | 0, 0 => exact packedbf16_S4x2x256x2048_S1x1x256x2048_0_0_0_0
  | 0, 1 => exact packedbf16_S4x2x256x2048_S1x1x256x2048_0_1_0_0
  | 1, 0 => exact packedbf16_S4x2x256x2048_S1x1x256x2048_1_0_0_0
  | 1, 1 => exact packedbf16_S4x2x256x2048_S1x1x256x2048_1_1_0_0
  | 2, 0 => exact packedbf16_S4x2x256x2048_S1x1x256x2048_2_0_0_0
  | 2, 1 => exact packedbf16_S4x2x256x2048_S1x1x256x2048_2_1_0_0
  | 3, 0 => exact packedbf16_S4x2x256x2048_S1x1x256x2048_3_0_0_0
  | 3, 1 => exact packedbf16_S4x2x256x2048_S1x1x256x2048_3_1_0_0

theorem wordsSlot (ρ : Fin 4) (b : Fin 2) : (slotRect ρ b).WholeWords (EltTy.packing .bf16) := by
  match ρ, b with
  | 0, 0 => exact wordsbf16_S4x2x256x2048_S1x1x256x2048_0_0_0_0
  | 0, 1 => exact wordsbf16_S4x2x256x2048_S1x1x256x2048_0_1_0_0
  | 1, 0 => exact wordsbf16_S4x2x256x2048_S1x1x256x2048_1_0_0_0
  | 1, 1 => exact wordsbf16_S4x2x256x2048_S1x1x256x2048_1_1_0_0
  | 2, 0 => exact wordsbf16_S4x2x256x2048_S1x1x256x2048_2_0_0_0
  | 2, 1 => exact wordsbf16_S4x2x256x2048_S1x1x256x2048_2_1_0_0
  | 3, 0 => exact wordsbf16_S4x2x256x2048_S1x1x256x2048_3_0_0_0
  | 3, 1 => exact wordsbf16_S4x2x256x2048_S1x1x256x2048_3_1_0_0

/-! ## The buffers, the semaphores and the neighbours -/

/-- The operands of the body: the activations' columns, the weight's rows, the two scales, the output block,
    the communication buffer. -/
abbrev xM : Memref sig .tc .vmem S4096x256 .fp8e4m3 := stage0_0 0
abbrev wM : Memref sig .tc .vmem S256x8192 .fp8e4m3 := stage0_1 0
abbrev sxM : Memref sig .tc .smem S1 .f32 := stage0_2 0
abbrev swM : Memref sig .tc .smem S1 .f32 := stage0_3 0
abbrev oM : Memref sig .tc .vmem S256x8192 .f32 := stage0_4 0
abbrev commM : Memref sig .tc .vmem S4x2x256x2048 .bf16 := Memref.whole cc0_scratch0

theorem hcomm : (commM).IsWhole := Memref.isWhole_whole _

/-- Slot `b` of ring `ρ`. -/
abbrev slotM (ρ : Fin 4) (b : Fin 2) : Memref sig .tc .vmem S256x2048 .bf16 :=
  (commM.slice (slotRect ρ b) (fun _ => rfl)).squeeze S256x2048 squeezes_S1x1x256x2048_S256x2048

/-- The semaphores of ring `ρ`: send and receive per slot, one credit. -/
abbrev sendSem (ρ : Fin 4) (b : Fin 2) : DmaSem sig :=
  ((cc0_scratch1.slice (Rect.unit (s := S4x2) ![ρ.val, b.val] S1x1.size (inbPair ρ b))).squeeze S_ squeezes_S1x1_S_).sem
abbrev recvSem (ρ : Fin 4) (b : Fin 2) : DmaSem sig :=
  ((cc0_scratch2.slice (Rect.unit (s := S4x2) ![ρ.val, b.val] S1x1.size (inbPair ρ b))).squeeze S_ squeezes_S1x1_S_).sem
abbrev credSem (ρ : Fin 4) : Sem sig :=
  ((cc0_scratch3.slice (Rect.unit (s := S4) ![ρ.val] S1.size (inbOne ρ))).squeeze S_ squeezes_S1_S_).sem
abbrev barSem : Sem sig := (SemArray.scalar (sig.barrier 0 rfl) : Sems sig S_).sem

/-- The left and the right neighbour on the ring of sixteen. -/
abbrev leftDev (d : Dev nD) : Dev nD := ⟨k0_dev1 d, k0_dev1_lt d⟩
abbrev rightDev (d : Dev nD) : Dev nD := ⟨k0_dev2 d, k0_dev2_lt d⟩

/-- Rings 0 and 1 turn right, rings 2 and 3 left: where ring `ρ` sends to and receives from. -/
def succDev (ρ : Fin 4) (d : Dev nD) : Dev nD := if ρ.val < 2 then rightDev d else leftDev d
def predDev (ρ : Fin 4) (d : Dev nD) : Dev nD := if ρ.val < 2 then leftDev d else rightDev d

/-- The slot that is read and sent at step `s`. -/
abbrev par (s : ℕ) : Fin 2 := ⟨s % 2, Nat.mod_lt _ (by decide)⟩

/-- The step as a position of the sixteen. -/
abbrev pos (s : ℕ) : Fin 16 := ⟨s % 16, Nat.mod_lt _ (by decide)⟩

/-! ## The values -/

abbrev P := Prog (TpuEff nD τ sig (Elt F) Λ₀ .tc) PUnit

/-- One chunk's product: 256 rows of the activations by a quarter of the weight's columns. -/
def prod (x : Vec F S256x256 .fp8e4m3) (w : Vec F S256x2048 .fp8e4m3) : FVec F S256x2048 .f32 :=
  matmul dot_S256x256_S256x2048_S256x2048_1_0_0_1_n_n none (shapeCast S256x256 x shapeCasts_S256x256_S256x256)
    (shapeCast S256x2048 w shapeCasts_S256x2048_S256x2048) (constant S256x2048 .f32 0x00000000#32)

/-- What the first step writes to its slot. -/
def firstVal (pd : FVec F S256x2048 .f32) : FVec F S256x2048 .bf16 := truncf .bf16 pd bitsLt_bf16_f32

/-- The running sum: what arrived plus the own product. -/
def sumVal (v : FVec F S256x2048 .bf16) (pd : FVec F S256x2048 .f32) : FVec F S256x2048 .f32 :=
  addf (extf .f32 v bitsLt_bf16_f32) pd

/-- What a middle step writes back to its slot. -/
def nextVal (v : FVec F S256x2048 .bf16) (pd : FVec F S256x2048 .f32) : FVec F S256x2048 .bf16 :=
  truncf .bf16 (sumVal v pd) bitsLt_bf16_f32

/-- What the last step writes to the output: the sum times the scale. -/
def outVal (sc : F .f32) (v : FVec F S256x2048 .bf16) (pd : FVec F S256x2048 .f32) : FVec F S256x2048 .f32 :=
  mulf (sumVal v pd) (broadcast S256x2048 sc)

/-- A slot's contents as a matrix, and a matrix as a slot's contents. -/
def toMat (v : Vec F S1x1x256x2048 .bf16) : FVec F S256x2048 .bf16 := shapeCast S256x2048 v shapeCasts_S1x1x256x2048_S256x2048
def ofMat (v : FVec F S256x2048 .bf16) : Vec F S1x1x256x2048 .bf16 := shapeCast S1x1x256x2048 v shapeCasts_S256x2048_S1x1x256x2048

/-! ## The operations, each before the rest `k` of the program -/

def loadX1 (d : Dev nD) (s : ℕ) (k : Vec F S256x256 .fp8e4m3 → P (F := F)) : P (F := F) :=
  .op (.load xM (Rect.unit (s := S4096x256) (k0_off1 d (BitVec.ofNat 32 (pos s).val)) S256x256.size
    (k0_off1_inb d (pos s))).toLoadRect (View.loadsAt_vmem h_S256x256)) k

def loadX2 (d : Dev nD) (s : ℕ) (k : Vec F S256x256 .fp8e4m3 → P (F := F)) : P (F := F) :=
  .op (.load xM (Rect.unit (s := S4096x256) (k0_off2 d (BitVec.ofNat 32 (pos s).val)) S256x256.size
    (k0_off2_inb d (pos s))).toLoadRect (View.loadsAt_vmem h_S256x256)) k

def loadW (ρ : Fin 4) (k : Vec F S256x2048 .fp8e4m3 → P (F := F)) : P (F := F) :=
  .op (.load wM (colRect ρ).toLoadRect (View.loadsAt_vmem h_S256x2048)) k

def loadOut (ρ : Fin 4) (k : Vec F S256x2048 .f32 → P (F := F)) : P (F := F) :=
  .op (.load oM (colRect ρ).toLoadRect (View.loadsAt_vmem h_S256x2048)) k

def storeOut (ρ : Fin 4) (v : FVec F S256x2048 .f32) (k : P (F := F)) : P (F := F) :=
  .op (.store oM (colRect ρ) v Finset.univ (View.stores_vmem_bits_univ h_S256x2048 rfl) (.inl rfl)) fun _ => k

def loadSlot (ρ : Fin 4) (b : Fin 2) (k : Vec F S1x1x256x2048 .bf16 → P (F := F)) : P (F := F) :=
  .op (.load commM (slotRect ρ b).toLoadRect (View.loadsAt_vmem h_S1x1x256x2048)) k

def storeSlot (ρ : Fin 4) (b : Fin 2) (v : Vec F S1x1x256x2048 .bf16) (k : P (F := F)) : P (F := F) :=
  .op (.store commM (slotRect ρ b) v Finset.univ
    (View.stores_vmem h_S1x1x256x2048 (hcomm.storeExact_slice rfl _ (packedSlot ρ b)) (fun _ => rfl)) (.inl rfl)) fun _ => k

theorem slotWords (ρ : Fin 4) (b : Fin 2) : (slotM ρ b).view.WordExact :=
  (hcomm.wordExact_slice rfl _ (wordsSlot ρ b)).reshape _ _

/-- Send slot `b` to the other slot of the next device on the ring. -/
def send (d : Dev nD) (ρ : Fin 4) (b b' : Fin 2) (k : P (F := F)) : P (F := F) :=
  .op (.enqueueDma (slotM ρ b) (.remote (Dev.tc (succDev ρ d)) (slotM ρ b') (.dma (sendSem ρ b)))
    (.dma (recvSem ρ b')) (slotWords ρ b) (slotWords ρ b') ⟨⟨rfl, Or.inl rfl⟩, trivial⟩) fun _ => k

/-- Wait until the send out of slot `b'` is done. -/
def waitSend (ρ : Fin 4) (b' b : Fin 2) (k : P (F := F)) : P (F := F) :=
  .op (.waitDma2 (sendSem ρ b') (slotM ρ b) (slotM ρ b') (slotWords ρ b) (slotWords ρ b')) fun _ => k

/-- Wait until slot `b` has arrived. -/
def waitRecv (ρ : Fin 4) (b : Fin 2) (k : P (F := F)) : P (F := F) :=
  .op (.waitDma2 (recvSem ρ b) (slotM ρ b) (slotM ρ b) (slotWords ρ b) (slotWords ρ b)) fun _ => k

/-- Signal one unit of a semaphore of device `d`, and wait for `n` units of an own one. -/
def signal (d : Dev nD) (sm : Sem sig) (k : P (F := F)) : P (F := F) :=
  .op (.semSignal (Dev.tc d) sm (1#32 : BitVec 32).toInt) fun _ => k
def await (sm : Sem sig) (n : BitVec 32) (k : P (F := F)) : P (F := F) :=
  .op (.semWait sm n.toInt) fun _ => k

/-! ## The steps -/

/-- The four products of step `s`. -/
def products (d : Dev nD) (s : ℕ) (k : (pd0 pd1 pd2 pd3 : FVec F S256x2048 .f32) → P (F := F)) : P (F := F) :=
  loadX1 d s fun x1 => loadX2 d s fun x2 => loadW 0 fun w0 => loadW 1 fun w1 => loadW 2 fun w2 => loadW 3 fun w3 =>
  k (prod x1 w0) (prod x1 w1) (prod x2 w2) (prod x2 w3)

/-- The first step of a ring. -/
def ringFirst (d : Dev nD) (ρ : Fin 4) (pd : FVec F S256x2048 .f32) (k : P (F := F)) : P (F := F) :=
  loadSlot ρ 0 fun _ => storeSlot ρ 0 (ofMat (firstVal pd)) <| send d ρ 0 1 k

/-- A middle step of a ring: the slot sent before is free, so the previous device may write it; take what
    arrived, add, wait for the next device's slot, send on. -/
def ringMid (d : Dev nD) (s : ℕ) (ρ : Fin 4) (pd : FVec F S256x2048 .f32) (k : P (F := F)) : P (F := F) :=
  waitSend ρ (par (s + 1)) (par s) <| signal (predDev ρ d) (credSem ρ) <| waitRecv ρ (par s) <|
  loadSlot ρ (par s) fun v => loadSlot ρ (par s) fun _ => storeSlot ρ (par s) (ofMat (nextVal (toMat v) pd)) <|
  await (credSem ρ) 1#32 <| send d ρ (par s) (par (s + 1)) k

/-- The last step of a ring: the sum, scaled, goes to the output. -/
def ringLast (sc : F .f32) (ρ : Fin 4) (pd : FVec F S256x2048 .f32) (k : P (F := F)) : P (F := F) :=
  waitSend ρ 0 1 <| waitRecv ρ 1 <| loadSlot ρ 1 fun v => loadOut ρ fun _ => storeOut ρ (outVal sc (toMat v) pd) k

/-- One middle step on the four rings. -/
def midStep (d : Dev nD) (s : ℕ) (k : P (F := F)) : P (F := F) :=
  products d s fun pd0 pd1 pd2 pd3 => ringMid d s 0 pd0 <| ringMid d s 1 pd1 <| ringMid d s 2 pd2 <| ringMid d s 3 pd3 k

/-- `n` middle steps from step `s` on. -/
def midSteps (d : Dev nD) : ℕ → ℕ → P (F := F) → P (F := F)
  | 0, _, k => k
  | n + 1, s, k => midStep d s (midSteps d n (s + 1) k)

/-- The handshake with both neighbours, then the two scales. -/
def prologue (d : Dev nD) (k : F .f32 → P (F := F)) : P (F := F) :=
  signal (leftDev d) barSem <| signal (rightDev d) barSem <| await barSem 2#32 <|
  .op (.load sxM (Rect.unit (s := S1) ![0] S1.size inb_S1_S1_0).toLoadRect
    (View.loadsAt_rect (View.loads_smem_one rfl numel1_S1))) fun a =>
  .op (.load swM (Rect.unit (s := S1) ![0] S1.size inb_S1_S1_0).toLoadRect
    (View.loadsAt_rect (View.loads_smem_one rfl numel1_S1))) fun b =>
  k (Scalar.mulf (a (Shape.Idx.first (numel1_S1.symm ▸ Nat.one_pos))) (b (Shape.Idx.first (numel1_S1.symm ▸ Nat.one_pos))))

/-- The step that starts the rings. -/
def firstStep (d : Dev nD) (k : P (F := F)) : P (F := F) :=
  products d 0 fun pd0 pd1 pd2 pd3 => ringFirst d 0 pd0 <| ringFirst d 1 pd1 <| ringFirst d 2 pd2 <| ringFirst d 3 pd3 k

/-- The step that ends them. -/
def lastStep (d : Dev nD) (sc : F .f32) : P (F := F) :=
  products d 15 fun pd0 pd1 pd2 pd3 => ringLast sc 0 pd0 <| ringLast sc 1 pd1 <| ringLast sc 2 pd2 <| ringLast sc 3 pd3 (.ret ⟨⟩)

/-- The body. -/
def body : P (F := F) :=
  .op .deviceId fun d => prologue d fun sc => firstStep d <| midSteps d 14 1 <| lastStep d sc

set_option maxHeartbeats 1000000 in
/-- The printed body is the loop over steps. -/
theorem body_eq : cc0_body (F := F) xM (hstage0_0 0) wM (hstage0_1 0) sxM (hstage0_2 0) swM (hstage0_3 0) oM (hstage0_4 0) commM (Memref.isWhole_whole _) cc0_scratch1 cc0_scratch2 cc0_scratch3 = body (F := F) := rfl

end Cert.KernelIdeal.Steps

end
-- ==== Proof.IdealCommon.lean ====
/- The protocol between the devices: the cells (semaphores), what each payment of a cell hands over, the release
   records of the slots, what each device owes at launch and at which index. -/
module

public import proofs.«01_k».proof.Proof.IdealNorm
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.TalkSites
public import Idealize.ShloMosaic.Lib.Pipeline.Kit
public import Idealize.ShloMosaic.Lib.Release
public import Idealize.ShloMosaic.Lib.Tactic

@[expose] public section

set_option maxRecDepth 16384

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites (Pay Pay.tally tallyL)

variable {F : FTy → Type} [FloatOps F]

/-! ## The ghost state: the staging pipeline's, the cells' rounds, the slots' releases -/

/-- A slot of a device: the device, the ring, the parity. -/
abbrev Key : Type := Dev nD × Fin 4 × Fin 2

abbrev UB : Type := URounds (GSem nD τ sig) ℕ
abbrev UX : Type := UB × USlots Key
abbrev UU : Type := UR sig nD τ × UX

local notation "𝕄" => MT nD τ sig ℕ (Elt F) ℕ UU ℕ

abbrev EP : Emb (UR sig nD τ) (MT nD τ sig ℕ (Elt F) ℕ UU ℕ) := embL
abbrev EX : Emb UX (MT nD τ sig ℕ (Elt F) ℕ UU ℕ) := embR
abbrev ER : Emb UB (MT nD τ sig ℕ (Elt F) ℕ UU ℕ) := (Emb.inl : Emb UB UX).trans EX
abbrev ES : Emb (USlots Key) (MT nD τ sig ℕ (Elt F) ℕ UU ℕ) := (Emb.inr : Emb (USlots Key) UX).trans EX

/-! ## The neighbours -/

omit [FloatOps F] in
theorem left_right (c : Dev nD) : leftDev (rightDev c) = c := by revert c; decide
theorem right_left (c : Dev nD) : rightDev (leftDev c) = c := by revert c; decide

theorem pred_succ (ρ : Fin 4) (c : Dev nD) : predDev ρ (succDev ρ c) = c := by
  unfold predDev succDev; split
  · exact left_right c
  · exact right_left c
theorem succ_pred (ρ : Fin 4) (c : Dev nD) : succDev ρ (predDev ρ c) = c := by
  unfold predDev succDev; split
  · exact right_left c
  · exact left_right c

/-- The turn of ring `ρ`. -/
def turn (ρ : Fin 4) : Dev nD ≃ Dev nD := ⟨succDev ρ, predDev ρ, pred_succ ρ, succ_pred ρ⟩

/-! ## The cells -/

/-- The semaphores of a device: the barrier, a credit per ring, a send and a receive semaphore per ring and slot. -/
inductive Kind where
  | bar
  | cred (ρ : Fin 4)
  | snd (ρ : Fin 4) (b : Fin 2)
  | rcv (ρ : Fin 4) (b : Fin 2)
  deriving DecidableEq

/-- The kinds as a sum of index types. -/
abbrev KindSum : Type := Unit ⊕ Fin 4 ⊕ (Fin 4 × Fin 2) ⊕ (Fin 4 × Fin 2)

def kindEquiv : KindSum ≃ Kind where
  toFun
    | .inl _ => .bar
    | .inr (.inl ρ) => .cred ρ
    | .inr (.inr (.inl x)) => .snd x.1 x.2
    | .inr (.inr (.inr x)) => .rcv x.1 x.2
  invFun
    | .bar => .inl ()
    | .cred ρ => .inr (.inl ρ)
    | .snd ρ b => .inr (.inr (.inl (ρ, b)))
    | .rcv ρ b => .inr (.inr (.inr (ρ, b)))
  left_inv x := by rcases x with x | x | x | x <;> rfl
  right_inv x := by cases x <;> rfl

instance : Fintype Kind := Fintype.ofEquiv KindSum kindEquiv

def csem : Kind → SemLoc sig
  | .bar => .reg barSem
  | .cred ρ => .reg (credSem ρ)
  | .snd ρ b => .dma (sendSem ρ b)
  | .rcv ρ b => .dma (recvSem ρ b)

/-- Which of them a semaphore is. -/
def kindOf : SemLoc sig → Option Kind
  | .reg i => if h : i.val < 4 then some (.cred ⟨i.val, h⟩) else some .bar
  | .dma i =>
    if i.val < 5 then none
    else if h : i.val < 13 then some (.snd ⟨(i.val - 5) / 2, by omega⟩ ⟨(i.val - 5) % 2, by omega⟩)
    else if h : i.val < 21 then some (.rcv ⟨(i.val - 13) / 2, by omega⟩ ⟨(i.val - 13) % 2, by omega⟩) else none

theorem kindOf_csem (k : Kind) : kindOf (csem k) = some k := by
  cases k with
  | bar => decide
  | cred ρ => revert ρ; decide
  | snd ρ b => revert ρ b; decide
  | rcv ρ b => revert ρ b; decide

theorem csem_injective : Function.Injective csem := fun a b h => by
  have := congrArg kindOf h
  rw [kindOf_csem, kindOf_csem] at this
  exact Option.some.inj this

abbrev cell (c : Dev nD) (k : Kind) : GSem nD τ sig := ((c : Thread nD τ), csem k)

/-- The units of one slot's transfer. -/
abbrev N : ℕ := (slotM 0 0).view.dmaCredit
theorem N_pos : 0 < N := View.dmaCredit_pos _ (by decide)
theorem slot_credit (ρ : Fin 4) (b : Fin 2) : (slotM ρ b).view.dmaCredit = N := rfl

/-! ## The slots -/

/-- Slot `b` of ring `ρ` on device `c`: its place in memory. -/
abbrev slotLoc (c : Dev nD) (ρ : Fin 4) (b : Fin 2) : Loc nD τ sig := (slotM ρ b).view.loc (c : Thread nD τ)
abbrev slotSet (ρ : Fin 4) (b : Fin 2) : Finset commM.view.ty.shape.Idx := (slotM ρ b).view.set

/-- The slot, whatever it holds; -/
def slotAny (c : Dev nD) (ρ : Fin 4) (b : Fin 2) : sProp 𝕄 := slot (slotLoc c ρ b) (slotM ρ b).view.set
/-- the slot holding the matrix `v`. -/
def slotHas (c : Dev nD) (ρ : Fin 4) (b : Fin 2) (v : FVec F S256x2048 .bf16) : sProp 𝕄 :=
  iprop(∃ f : Buf (Elt F) (slotLoc c ρ b), ⌜(slotM ρ b).view.read (Elt F) f = v⌝ ∗ slotLoc c ρ b ↦[(slotM ρ b).view.set]{fullShare} f)

instance slotAny_storable (c : Dev nD) (ρ : Fin 4) (b : Fin 2) : BI.Storable (upEmb : UEmb _ 𝕄) (slotAny (F := F) c ρ b) := by
  unfold slotAny; infer_instance
instance slotHas_storable (c : Dev nD) (ρ : Fin 4) (b : Fin 2) (v : FVec F S256x2048 .bf16) :
    BI.Storable (upEmb : UEmb _ 𝕄) (slotHas (F := F) c ρ b v) := by
  unfold slotHas; infer_instance

theorem slotHas_any (c : Dev nD) (ρ : Fin 4) (b : Fin 2) (v : FVec F S256x2048 .bf16) : slotHas c ρ b v ⊢ (slotAny c ρ b : sProp 𝕄) := by
  unfold slotHas slotAny slot
  iintro ⟨%f, -, H⟩
  iexists f; iexact H

/-! ## What the payments hand over -/

/-- What device `c` needs for its send of step `s` on ring `ρ`, from the device it sends to: the slot it writes has been
    released for that write, and the receive semaphore it pays has reached that payment's round. -/
def need (c : Dev nD) (ρ : Fin 4) (s : ℕ) : sProp 𝕄 :=
  iprop(released ES (succDev ρ c, ρ, par (s + 1)) (s / 2 + 1) ∗ reached ER (cell (succDev ρ c) (.rcv ρ (par (s + 1)))) (s / 2))

/-- What the credit of step `s` hands over: the needs of the sends up to step `s`, by the last two. -/
def credPay (c : Dev nD) (ρ : Fin 4) (s : ℕ) : sProp 𝕄 := iprop(need c ρ s ∗ need c ρ (s - 1))

/-- What the handshake hands over: the needs of the first sends. The right neighbour speaks for rings 0 and 1, the left for 2 and 3. -/
def barPay (c : Dev nD) (d : ℕ) : sProp 𝕄 := if d = 0 then iprop(need c 2 0 ∗ need c 3 0) else iprop(need c 0 0 ∗ need c 1 0)

instance need_storable (c : Dev nD) (ρ : Fin 4) (s : ℕ) : BI.Storable (upEmb : UEmb _ 𝕄) (need (F := F) c ρ s) := by
  unfold need; infer_instance
instance credPay_storable (c : Dev nD) (ρ : Fin 4) (s : ℕ) : BI.Storable (upEmb : UEmb _ 𝕄) (credPay (F := F) c ρ s) := by
  unfold credPay; infer_instance
instance barPay_storable (c : Dev nD) (d : ℕ) : BI.Storable (upEmb : UEmb _ 𝕄) (barPay (F := F) c d) := by
  unfold barPay; split <;> infer_instance
instance need_persistent (c : Dev nD) (ρ : Fin 4) (s : ℕ) : BI.Persistent (need (F := F) c ρ s) := by unfold need; infer_instance
instance credPay_persistent (c : Dev nD) (ρ : Fin 4) (s : ℕ) : BI.Persistent (credPay (F := F) c ρ s) := by unfold credPay; infer_instance

/-- The need of a step follows from that of any later step of the same parity. -/
theorem need_mono (c : Dev nD) (ρ : Fin 4) {s s' : ℕ} (h : s ≤ s') (hp : s % 2 = s' % 2) : need c ρ s' ⊢ (need c ρ s : sProp 𝕄) := by
  have e : par (s' + 1) = par (s + 1) := Fin.ext (show (s' + 1) % 2 = (s + 1) % 2 by omega)
  unfold need
  rw [e]
  exact Laws.sep_mono (released_mono ES (by omega)) (reached_mono ER (by omega))

/-- The need of a step follows from the credit of that step or any later one. -/
theorem credPay_need (c : Dev nD) (ρ : Fin 4) {s s' : ℕ} (h : s ≤ s') : credPay c ρ s' ⊢ (need c ρ s : sProp 𝕄) := by
  unfold credPay
  by_cases hp : s % 2 = s' % 2
  · iintro ⟨H, -⟩; iapply (need_mono c ρ h hp); iexact H
  · iintro ⟨-, H⟩; iapply (need_mono c ρ (s := s) (s' := s' - 1) (by omega) (by omega)); iexact H

/-! ## The schedule -/

section Sched

variable (A : Fin 4 → ℕ → Dev nD → FVec F S256x2048 .bf16)

/-- The payments of each cell, `A ρ s c` being the matrix that device `c` sends at step `s` on ring `ρ`. The barrier: one unit
    from each neighbour. A credit: one unit per middle step, in one round. A send or receive semaphore: one payment a round. -/
def rd : Rounds.Schedule (GSem nD τ sig) ℕ 𝕄 where
  duties g r := match kindOf g.2 with
    | some .bar => if r = 0 then {0, 1} else ∅
    | some (.cred _) => if r = 0 then Finset.range 14 else ∅
    | some (.snd _ b) => if 2 * r + b.val ≤ 14 then {0} else ∅
    | some (.rcv _ b) => if 2 * r + (1 - b.val) ≤ 14 then {0} else ∅
    | none => ∅
  unitless _ := False
  amount g _ _ := match kindOf g.2 with
    | some .bar => 1
    | some (.cred _) => 1
    | _ => N
  payload g r d := match kindOf g.2 with
    | some .bar => barPay g.1.1 d
    | some (.cred ρ) => credPay g.1.1 ρ (d + 1)
    | some (.snd ρ b) => slotAny g.1.1 ρ b
    | some (.rcv ρ b) => slotHas g.1.1 ρ b (A ρ (2 * r + (1 - b.val)) (predDev ρ g.1.1))
    | none => iprop(emp)
  amount_pos g _ _ _ := by
    split
    · exact Nat.one_pos
    · exact Nat.one_pos
    · exact N_pos

instance rd_payload_storable (g : GSem nD τ sig) (r d : ℕ) : BI.Storable (upEmb : UEmb _ 𝕄) ((rd A).payload g r d) := by
  dsimp only [rd]
  split <;> infer_instance

variable (c : Dev nD) (ρ : Fin 4) (b : Fin 2) (r d : ℕ)

theorem duties_bar : (rd A).duties (cell c .bar) 0 = {0, 1} := by dsimp only [rd]; rw [kindOf_csem]; rfl
theorem duties_cred : (rd A).duties (cell c (.cred ρ)) 0 = Finset.range 14 := by dsimp only [rd]; rw [kindOf_csem]; rfl
theorem duties_snd (h : 2 * r + b.val ≤ 14) : (rd A).duties (cell c (.snd ρ b)) r = {0} := by
  dsimp only [rd]; rw [kindOf_csem]; exact if_pos h
theorem duties_rcv (h : 2 * r + (1 - b.val) ≤ 14) : (rd A).duties (cell c (.rcv ρ b)) r = {0} := by
  dsimp only [rd]; rw [kindOf_csem]; exact if_pos h
theorem duties_snd_none (h : 14 < 2 * r + b.val) : (rd A).duties (cell c (.snd ρ b)) r = ∅ := by
  dsimp only [rd]; rw [kindOf_csem]; exact if_neg (by omega)
theorem duties_rcv_none (h : 14 < 2 * r + (1 - b.val)) : (rd A).duties (cell c (.rcv ρ b)) r = ∅ := by
  dsimp only [rd]; rw [kindOf_csem]; exact if_neg (by omega)
theorem duties_bar_none (h : 1 ≤ r) : (rd A).duties (cell c .bar) r = ∅ := by
  dsimp only [rd]; rw [kindOf_csem]; exact if_neg (by omega)
theorem duties_cred_none (h : 1 ≤ r) : (rd A).duties (cell c (.cred ρ)) r = ∅ := by
  dsimp only [rd]; rw [kindOf_csem]; exact if_neg (by omega)

theorem amount_bar : (rd A).amount (cell c .bar) r d = 1 := by dsimp only [rd]; rw [kindOf_csem]
theorem amount_cred : (rd A).amount (cell c (.cred ρ)) r d = 1 := by dsimp only [rd]; rw [kindOf_csem]
theorem amount_snd : (rd A).amount (cell c (.snd ρ b)) r d = N := by dsimp only [rd]; rw [kindOf_csem]
theorem amount_rcv : (rd A).amount (cell c (.rcv ρ b)) r d = N := by dsimp only [rd]; rw [kindOf_csem]

theorem payload_bar : (rd A).payload (cell c .bar) r d = barPay c d := by dsimp only [rd]; rw [kindOf_csem]
theorem payload_cred : (rd A).payload (cell c (.cred ρ)) r d = credPay c ρ (d + 1) := by dsimp only [rd]; rw [kindOf_csem]
theorem payload_snd : (rd A).payload (cell c (.snd ρ b)) r d = slotAny c ρ b := by dsimp only [rd]; rw [kindOf_csem]
theorem payload_rcv : (rd A).payload (cell c (.rcv ρ b)) r d = slotHas c ρ b (A ρ (2 * r + (1 - b.val)) (predDev ρ c)) := by
  dsimp only [rd]; rw [kindOf_csem]

theorem expect_bar : (rd A).expect (cell c .bar) 0 = 2 := by
  unfold Schedule.expect Schedule.amountOf
  rw [duties_bar, Finset.sum_congr rfl fun d _ => amount_bar A c 0 d]; rfl
theorem expect_cred : (rd A).expect (cell c (.cred ρ)) 0 = 14 := by
  unfold Schedule.expect Schedule.amountOf
  rw [duties_cred, Finset.sum_congr rfl fun d _ => amount_cred A c ρ 0 d]; rfl
theorem expect_snd (h : 2 * r + b.val ≤ 14) : (rd A).expect (cell c (.snd ρ b)) r = N := by
  unfold Schedule.expect Schedule.amountOf
  rw [duties_snd A c ρ b r h, Finset.sum_singleton, amount_snd]
theorem expect_rcv (h : 2 * r + (1 - b.val) ≤ 14) : (rd A).expect (cell c (.rcv ρ b)) r = N := by
  unfold Schedule.expect Schedule.amountOf
  rw [duties_rcv A c ρ b r h, Finset.sum_singleton, amount_rcv]

theorem rest_bar : bigSep ((rd A).duties (cell c .bar) 0 \ ∅) (fun d => (rd A).payload (cell c .bar) 0 d)
    = iprop((need c 2 0 ∗ need c 3 0) ∗ need c 0 0 ∗ need c 1 0) := by
  rw [Finset.sdiff_empty, duties_bar, bigSep_insert (by decide), bigSep_singleton, payload_bar, payload_bar]; rfl
theorem rest_snd (h : 2 * r + b.val ≤ 14) : bigSep ((rd A).duties (cell c (.snd ρ b)) r \ ∅) (fun d => (rd A).payload (cell c (.snd ρ b)) r d)
    = slotAny c ρ b := by
  rw [Finset.sdiff_empty, duties_snd A c ρ b r h, bigSep_singleton, payload_snd]
theorem rest_rcv (h : 2 * r + (1 - b.val) ≤ 14) : bigSep ((rd A).duties (cell c (.rcv ρ b)) r \ ∅) (fun d => (rd A).payload (cell c (.rcv ρ b)) r d)
    = slotHas c ρ b (A ρ (2 * r + (1 - b.val)) (predDev ρ c)) := by
  rw [Finset.sdiff_empty, duties_rcv A c ρ b r h, bigSep_singleton, payload_rcv]

/-! ## What every device may use at any time: the invariants of all cells and slots, the levels -/

/-- A bound above every index. -/
abbrev NL : ℕ := 256
abbrev L : GSem nD τ sig → Finset ℕ := SiteBlocks.L NL
abbrev lv : GSem nD τ sig → ℕ → ℕ := SiteBlocks.lv

def records : sProp 𝕄 :=
  iprop((bigSep Finset.univ fun x : Dev nD × Kind => iprop(∃ κ : ℕ, cellInv ER (rd A) κ (cell x.1 x.2)))
    ∗ (bigSep Finset.univ fun x : Dev nD × Kind => reached ER (cell x.1 x.2) 0)
    ∗ (bigSep Finset.univ fun k : Key => iprop(∃ ι : ℕ, slotInv ES ι k (slotAny k.1 k.2.1 k.2.2)))
    ∗ levAts L lv)

instance records_persistent : BI.Persistent (records (F := F) A) := by unfold records; infer_instance

theorem rec_inv (k : Kind) : records A ⊢ (iprop(∃ κ : ℕ, cellInv ER (rd A) κ (cell c k)) : sProp 𝕄) := by
  unfold records
  iintro ⟨H, -⟩
  iapply (show (bigSep Finset.univ fun x : Dev nD × Kind => (iprop(∃ κ : ℕ, cellInv ER (rd A) κ (cell x.1 x.2)) : sProp 𝕄)) ⊢ iprop(∃ κ : ℕ, cellInv ER (rd A) κ (cell c k)) from bigSep_elim (Finset.mem_univ (c, k)))
  iexact H
theorem rec_reached (k : Kind) : records A ⊢ (reached ER (cell c k) 0 : sProp 𝕄) := by
  unfold records
  iintro ⟨-, H, -⟩
  iapply (show (bigSep Finset.univ fun x : Dev nD × Kind => (reached ER (cell x.1 x.2) 0 : sProp 𝕄)) ⊢ reached ER (cell c k) 0 from bigSep_elim (Finset.mem_univ (c, k)))
  iexact H
theorem rec_slot : records A ⊢ (iprop(∃ ι : ℕ, slotInv ES ι (c, ρ, b) (slotAny c ρ b)) : sProp 𝕄) := by
  unfold records
  iintro ⟨-, -, H, -⟩
  iapply (show (bigSep Finset.univ fun k : Key => (iprop(∃ ι : ℕ, slotInv ES ι k (slotAny k.1 k.2.1 k.2.2)) : sProp 𝕄)) ⊢ iprop(∃ ι : ℕ, slotInv ES ι (c, ρ, b) (slotAny c ρ b)) from bigSep_elim (Finset.mem_univ (c, ρ, b)))
  iexact H
theorem rec_lev : records A ⊢ (levAts L lv : sProp 𝕄) := by
  unfold records
  iintro ⟨-, -, -, H⟩
  iexact H

end Sched

/-! ## What a device owes, in the order in which it pays -/

/-- The index of what is sent at step `s` on ring `ρ` (awaited one step later), and of the credit of step `s`. -/
abbrev ixDat (s : ℕ) (ρ : Fin 4) : ℕ := 8 * s + 2 * ρ.val
abbrev ixCred (s : ℕ) (ρ : Fin 4) : ℕ := 8 * s + 2 * ρ.val + 1

/-- The payment of the send of step `s`, and of the credit of step `s`. -/
abbrev payDat (c : Dev nD) (s : ℕ) (ρ : Fin 4) : Pay nD τ sig := (cell (succDev ρ c) (.rcv ρ (par (s + 1))), ixDat (s + 1) ρ, N)
abbrev payCred (c : Dev nD) (s : ℕ) (ρ : Fin 4) : Pay nD τ sig := (cell (predDev ρ c) (.cred ρ), ixCred s ρ, 1)

/-- The payments of the middle steps, of the first step, and all. -/
def payMid (c : Dev nD) (s : ℕ) : List (Pay nD τ sig) :=
  [payCred c s 0, payDat c s 0, payCred c s 1, payDat c s 1, payCred c s 2, payDat c s 2, payCred c s 3, payDat c s 3]
def paysMid (c : Dev nD) : ℕ → ℕ → List (Pay nD τ sig)
  | 0, _ => []
  | n + 1, s => payMid c s ++ paysMid c n (s + 1)
def paysFirst (c : Dev nD) : List (Pay nD τ sig) := [payDat c 0 0, payDat c 0 1, payDat c 0 2, payDat c 0 3]
def pays (c : Dev nD) : List (Pay nD τ sig) :=
  (cell (leftDev c) .bar, 1, 1) :: (cell (rightDev c) .bar, 1, 1) :: (paysFirst c ++ paysMid c 14 1)

/-- A list of payments lies above an index and below the bound, on TensorCore cells. -/
def Over (i : ℕ) (l : List (Pay nD τ sig)) : Prop := ∀ x ∈ l, x.1.1.2 = .tc ∧ i < x.2.1 ∧ x.2.1 < NL

theorem over_nil (i : ℕ) : Over i [] := fun _ h => absurd h List.not_mem_nil
theorem over_cons {i : ℕ} {x : Pay nD τ sig} {l : List (Pay nD τ sig)} (h : x.1.1.2 = .tc ∧ i < x.2.1 ∧ x.2.1 < NL) (hl : Over i l) :
    Over i (x :: l) := fun y hy => by
  rcases List.mem_cons.mp hy with rfl | hy
  · exact h
  · exact hl y hy
theorem over_append {i : ℕ} {l l' : List (Pay nD τ sig)} (h : Over i l) (h' : Over i l') : Over i (l ++ l') := fun y hy => by
  rcases List.mem_append.mp hy with hy | hy
  · exact h y hy
  · exact h' y hy
theorem over_mono {i j : ℕ} {l : List (Pay nD τ sig)} (h : Over j l) (hij : i ≤ j) : Over i l := fun y hy =>
  ⟨(h y hy).1, by have := (h y hy).2.1; omega, (h y hy).2.2⟩

theorem over_payMid (c : Dev nD) {s : ℕ} (hs : s ≤ 14) : Over (8 * s) (payMid c s) := by
  unfold payMid
  refine over_cons ⟨rfl, ?_, ?_⟩ <| over_cons ⟨rfl, ?_, ?_⟩ <| over_cons ⟨rfl, ?_, ?_⟩ <| over_cons ⟨rfl, ?_, ?_⟩ <|
    over_cons ⟨rfl, ?_, ?_⟩ <| over_cons ⟨rfl, ?_, ?_⟩ <| over_cons ⟨rfl, ?_, ?_⟩ <| over_cons ⟨rfl, ?_, ?_⟩ <| over_nil _ <;>
  (dsimp only [ixDat, ixCred, NL]; simp only [Fin.val_zero, Fin.val_one, Fin.val_two, show (3 : Fin 4).val = 3 from rfl]; omega)

theorem over_paysMid (c : Dev nD) (n s : ℕ) (h : s + n ≤ 15) : Over (8 * s) (paysMid c n s) := by
  induction n generalizing s with
  | zero => exact over_nil _
  | succ n ih => exact over_append (over_payMid c (by omega)) (over_mono (ih (s + 1) (by omega)) (by omega))

/-- A wait at an index below everything still owed. -/
theorem may_wait {A : Fin 4 → ℕ → Dev nD → FVec F S256x2048 .bf16} (c : Dev nD) (k : SemLoc sig) {i : ℕ} {l : List (Pay nD τ sig)} (hi : i < NL) (hl : Over i l) :
    records A ⊢ (MayWait (c : Thread nD τ) k i (tallyL l) : sProp 𝕄) :=
  (rec_lev A).trans (SiteBlocks.mayWait_of hi c k (tallyL l) fun g j h => by
    obtain ⟨x, hx, rfl, rfl⟩ := TalkSites.tallyL_pos h
    exact ⟨SiteBlocks.mem_L' (hl x hx).1 (hl x hx).2.2, (hl x hx).2.1⟩)

end Cert.KernelIdeal.Steps

end
-- ==== Proof.IdealOps.lean ====
/- The operations of the body under the protocol: what each needs and what it leaves, one lemma per operation. -/
module

public import proofs.«01_k».proof.Proof.IdealCommon

@[expose] public section

set_option maxRecDepth 16384

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites (Pay Pay.tally tallyL)

variable {F : FTy → Type} [FloatOps F]

local notation "𝕄" => MT nD τ sig ℕ (Elt F) ℕ UU ℕ

abbrev 𝒱₀ : Variants := Variants.none

/-- The weakest precondition of a piece of the body on device `c`. -/
abbrev Wp (c : Dev nD) (p : P (F := F)) (Q : PUnit.{1} → sProp 𝕄) : sProp 𝕄 :=
  wp frame (wpE (defs₀ (F := F)) 𝒱₀ (c : Thread nD τ) none) Set.univ p Q

/-! ## Loads and stores of a slot -/

/-- A slot read as the load reads it, as a matrix: the slot's reading. -/
theorem toMat_read (ρ : Fin 4) (b : Fin 2) (f : (commM).view.ty.Contents (Elt F)) :
    toMat ((commM).view.readAt (Elt F) (slotRect ρ b).toLoadRect f) = (slotM ρ b).view.read (Elt F) f := rfl

/-- A slot just stored reads the matrix stored. -/
theorem read_store (ρ : Fin 4) (b : Fin 2) (f : (commM).view.ty.Contents (Elt F)) (v : FVec F S256x2048 .bf16) :
    (slotM ρ b).view.read (Elt F) (((commM).access (slotRect ρ b)).write (Elt F) f (ofMat v) Finset.univ) = v := by
  have h : ((commM).access (slotRect ρ b)).read (Elt F) (((commM).access (slotRect ρ b)).write (Elt F) f (ofMat v) Finset.univ) = ofMat v :=
    View.read_write_univ _ _
  have h2 : (slotM ρ b).view.read (Elt F) (((commM).access (slotRect ρ b)).write (Elt F) f (ofMat v) Finset.univ)
      = toMat (((commM).access (slotRect ρ b)).read (Elt F) (((commM).access (slotRect ρ b)).write (Elt F) f (ofMat v) Finset.univ)) := rfl
  rw [h2, h]
  funext j
  show v (Shape.reshapeEquiv _ (Shape.reshapeEquiv _ j)) = v j
  rw [Shape.reshapeEquiv_reshapeEquiv, Shape.reshapeEquiv_self]

theorem slot_set (ρ : Fin 4) (b : Fin 2) : (slotM ρ b).view.set = ((commM).access (slotRect ρ b)).set :=
  View.set_reshape (v := ((commM).slice (slotRect ρ b) (fun _ => rfl)).view) _

theorem slot_sub (ρ : Fin 4) (b : Fin 2) : ((commM).access (slotRect ρ b)).set ⊆ (slotM ρ b).view.set := by
  rw [slot_set]

/-- A wait on a slot's transfer awaits the slot's units. -/
theorem wait_units (c : Dev nD) (sm : DmaSem sig) (ρ : Fin 4) (b b' : Fin 2) (K : PUnit.{1} → sProp 𝕄) :
    wpE (defs₀ (F := F)) 𝒱₀ (c : Thread nD τ) none Set.univ (.waitDma2 sm (slotM ρ b) (slotM ρ b') (slotWords ρ b) (slotWords ρ b')) K
      = waitSpec (c : Thread nD τ) Set.univ (.dma sm) N K :=
  wpE_waitDma2_eq 𝒱₀ (c : Thread nD τ) none Set.univ K

section Rules

variable (c : Dev nD) (ρ : Fin 4) (b : Fin 2) {Q : PUnit.{1} → sProp (MT nD τ sig ℕ (Elt F) ℕ UU ℕ)}

theorem wp_loadSlot {k : Vec F S1x1x256x2048 .bf16 → P (F := F)} (v : FVec F S256x2048 .bf16) :
    slotHas c ρ b v ⊢ iprop((∀ u, ⌜toMat u = v⌝ -∗ slotHas c ρ b v -∗ Wp c (k u) Q) -∗ Wp c (loadSlot ρ b k) Q) := by
  unfold slotHas loadSlot
  iintro ⟨%f, %hf, H⟩ Hk
  iapply (wp_load_rect 𝒱₀ (c : Thread nD τ) none Set.univ (m := commM) (r := slotRect ρ b) (slot_sub ρ b)) $$ H
  iintro H
  iapply Hk $$ %_ [] [H]
  · ipureintro; exact (toMat_read ρ b f).trans hf
  · iexists f; isplitr; · (ipureintro; exact hf)
    iexact H

theorem wp_loadSlot_any {k : Vec F S1x1x256x2048 .bf16 → P (F := F)} :
    slotAny c ρ b ⊢ iprop((∀ u, slotAny c ρ b -∗ Wp c (k u) Q) -∗ Wp c (loadSlot ρ b k) Q) := by
  unfold slotAny slot loadSlot
  iintro ⟨%f, H⟩ Hk
  iapply (wp_load_rect 𝒱₀ (c : Thread nD τ) none Set.univ (m := commM) (r := slotRect ρ b) (slot_sub ρ b)) $$ H
  iintro H
  iapply Hk $$ %_ [H]
  iexists f; iexact H

theorem wp_storeSlot {k : P (F := F)} (v : FVec F S256x2048 .bf16) :
    slotAny c ρ b ⊢ iprop((slotHas c ρ b v -∗ Wp c k Q) -∗ Wp c (storeSlot ρ b (ofMat v) k) Q) := by
  unfold slotAny slot storeSlot
  iintro ⟨%f, H⟩ Hk
  iapply (wp_store 𝒱₀ (c : Thread nD τ) none Set.univ (m := commM) (r := slotRect ρ b) (Mk := Finset.univ) (slot_sub ρ b)) $$ H
  iintro H
  iapply Hk
  unfold slotHas
  iexists _; isplitr; · (ipureintro; exact read_store ρ b f v)
  iexact H

/-! ## The transfers, the signals and the waits -/

variable (A : Fin 4 → ℕ → Dev nD → FVec F S256x2048 .bf16)

/-- The send of step `s`: the own slot, holding the step's matrix, and the slot it writes go in; what comes back is the
    right to await the send. -/
theorem wp_send_slot {k : P (F := F)} (s : ℕ) (hs : s ≤ 14) (l : List (Pay nD τ sig)) {W : Waits sig ℕ} :
    iprop(records A ∗ slotHas c ρ (par s) (A ρ s c) ∗ slotAny (succDev ρ c) ρ (par (s + 1))
        ∗ owes (c : Thread nD τ) (tallyL (payDat c s ρ :: l)) W
        ∗ dutyTok ER (cell c (.snd ρ (par s))) (s / 2) 0 ∗ reached ER (cell c (.snd ρ (par s))) (s / 2)
        ∗ dutyTok ER (cell (succDev ρ c) (.rcv ρ (par (s + 1)))) (s / 2) 0 ∗ reached ER (cell (succDev ρ c) (.rcv ρ (par (s + 1)))) (s / 2))
      ⊢ iprop(((cred (tallyAt (cell c (.snd ρ (par s))) 0 N) ∗ owes (c : Thread nD τ) (tallyL l) W) -∗ Wp c k Q)
        -∗ Wp c (send c ρ (par s) (par (s + 1)) k) Q) := by
  have h1 : 2 * (s / 2) + (par s).val ≤ 14 := by show 2 * (s / 2) + s % 2 ≤ 14; omega
  have h2 : 2 * (s / 2) + (1 - (par (s + 1)).val) = s := by show 2 * (s / 2) + (1 - (s + 1) % 2) = s; omega
  unfold slotHas slotAny slot send
  iintro ⟨#HR, ⟨%fs, %hfs, Hsrc⟩, ⟨%fd, Hdst⟩, HO, Ht1, Hr1, Ht2, Hr2⟩ Hk
  ihave H1 := (rec_inv A c (.snd ρ (par s))) $$ HR
  icases H1 with ⟨%κ₁, #HI1⟩
  ihave H2 := (rec_inv A (succDev ρ c) (.rcv ρ (par (s + 1)))) $$ HR
  icases H2 with ⟨%κ₂, #HI2⟩
  iapply (Rounds.wp_send_pointsTo 𝒱₀ ER (rd A) (c : Thread nD τ) none (κ₁ := κ₁) (κ₂ := κ₂) (r₁ := s / 2) (r₂ := s / 2) (d₁ := 0) (d₂ := 0)
    (src := slotM ρ (par s)) (dst := slotM ρ (par (s + 1))) (c' := (succDev ρ c : Thread nD τ)) (fd := fd) (q := fullShare)
    (sS := csem (.snd ρ (par s))) (sem := csem (.rcv ρ (par (s + 1))))
    (by rw [duties_snd A c ρ _ _ h1]; exact Finset.mem_singleton_self _)
    (by rw [duties_rcv A _ ρ _ _ (by omega)]; exact Finset.mem_singleton_self _)
    (ixDat (s + 1) ρ) 0 N rfl (amount_snd A c ρ _ _ _) (amount_rcv A _ ρ _ _ _) (tallyL l) (add_comm _ _)
    (by rw [payload_snd]; unfold slotAny slot; iintro H; iexists fs; iexact H)
    (by
      rw [payload_rcv, h2, pred_succ]; unfold slotHas; iintro H
      iexists _; isplitr
      rotate_left
      · iexact H
      · ipureintro; rw [View.read_write_univ]; exact hfs)) $$ [Hsrc Hdst HO Ht1 Hr1 Ht2 Hr2]
  · isplitr; · iexact HI1
    isplitr; · iexact HI2
    isplitl [Hsrc]; · iexact Hsrc
    isplitl [Hdst]; · iexact Hdst
    isplitl [HO]; · iexact HO
    isplitl [Ht1]; · iexact Ht1
    isplitl [Hr1]; · iexact Hr1
    isplitl [Ht2]; · iexact Ht2
    iexact Hr2
  iexact Hk

/-- The wait for an own send: the slot is back. -/
theorem wp_waitSend {k : P (F := F)} (b' : Fin 2) (r : ℕ) (h : 2 * r + b.val ≤ 14) (l : List (Pay nD τ sig)) (hl : Over 0 l) {W : Waits sig ℕ} :
    iprop(records A ∗ cred (tallyAt (cell c (.snd ρ b)) 0 N) ∗ owes (c : Thread nD τ) (tallyL l) W ∗ atPos ER (cell c (.snd ρ b)) r ∅ 0)
      ⊢ iprop(((∃ W', owes (c : Thread nD τ) (tallyL l) W') ∗ atPos ER (cell c (.snd ρ b)) (r + 1) ∅ 0 ∗ reached ER (cell c (.snd ρ b)) (r + 1) ∗ slotAny c ρ b
          -∗ Wp c k Q) -∗ Wp c (waitSend ρ b b' k) Q) := by
  unfold waitSend
  iintro ⟨#HR, Hc, HO, Hat⟩ Hk
  ihave H1 := (rec_inv A c (.snd ρ b)) $$ HR
  icases H1 with ⟨%κ, #HI⟩
  iapply (Rounds.wp_wait_rest_token 𝒱₀ ER (rd A) (c : Thread nD τ) none (κ := κ) (sm := csem (.snd ρ b)) (k' := N)
      (wait_units c (sendSem ρ b) ρ b' b) (Set.mem_univ _) 0 (O := tallyL l) (R := r) (m := 0) (T := ∅)
      (by rw [Nat.zero_add, expect_snd A c ρ b r h])) $$ [Hc HO Hat]
  · isplitr; · iexact HI
    isplitl [Hc]; · iexact Hc
    isplitl [HO]; · iexact HO
    isplitr; · iapply (may_wait (A := A) c _ (by decide) hl); iexact HR
    iexact Hat
  iintro ⟨HO, Hat, Hre, Hpay⟩
  ihave Hs := (Entails.of_eq (rest_snd A c ρ b r h)) $$ Hpay
  iapply Hk
  isplitl [HO]; · iexists _; iexact HO
  isplitl [Hat]; · iexact Hat
  isplitl [Hre]; · iexact Hre
  iexact Hs

/-- The wait for what step `s` brings: the matrix that the device before sent at step `s - 1`. -/
theorem wp_waitRecv {k : P (F := F)} (s : ℕ) (h : s ≤ 14) (l : List (Pay nD τ sig)) (hl : Over (ixDat (s + 1) ρ) l) {W : Waits sig ℕ} :
    iprop(records A ∗ cred (tallyAt (cell c (.rcv ρ (par (s + 1)))) (ixDat (s + 1) ρ) N) ∗ owes (c : Thread nD τ) (tallyL l) W
        ∗ atPos ER (cell c (.rcv ρ (par (s + 1)))) (s / 2) ∅ 0)
      ⊢ iprop(((∃ W', owes (c : Thread nD τ) (tallyL l) W') ∗ atPos ER (cell c (.rcv ρ (par (s + 1)))) (s / 2 + 1) ∅ 0
          ∗ reached ER (cell c (.rcv ρ (par (s + 1)))) (s / 2 + 1) ∗ slotHas c ρ (par (s + 1)) (A ρ s (predDev ρ c))
          -∗ Wp c k Q) -∗ Wp c (waitRecv ρ (par (s + 1)) k) Q) := by
  have h2 : 2 * (s / 2) + (1 - (par (s + 1)).val) = s := by show 2 * (s / 2) + (1 - (s + 1) % 2) = s; omega
  have hi : ixDat (s + 1) ρ < NL := by have := ρ.isLt; dsimp only [ixDat, NL]; omega
  unfold waitRecv
  iintro ⟨#HR, Hc, HO, Hat⟩ Hk
  ihave H1 := (rec_inv A c (.rcv ρ (par (s + 1)))) $$ HR
  icases H1 with ⟨%κ, #HI⟩
  iapply (Rounds.wp_wait_rest_token 𝒱₀ ER (rd A) (c : Thread nD τ) none (κ := κ) (sm := csem (.rcv ρ (par (s + 1)))) (k' := N)
      (wait_units c (recvSem ρ (par (s + 1))) ρ (par (s + 1)) (par (s + 1))) (Set.mem_univ _) (ixDat (s + 1) ρ) (O := tallyL l) (R := s / 2) (m := 0) (T := ∅)
      (by rw [Nat.zero_add, expect_rcv A c ρ _ _ (by omega)])) $$ [Hc HO Hat]
  · isplitr; · iexact HI
    isplitl [Hc]; · iexact Hc
    isplitl [HO]; · iexact HO
    isplitr; · iapply (may_wait (A := A) c _ hi hl); iexact HR
    iexact Hat
  iintro ⟨HO, Hat, Hre, Hpay⟩
  ihave Hs := (Entails.of_eq ((rest_rcv A c ρ (par (s + 1)) (s / 2) (by omega)).trans (by rw [h2]))) $$ Hpay
  iapply Hk
  isplitl [HO]; · iexists _; iexact HO
  isplitl [Hat]; · iexact Hat
  isplitl [Hre]; · iexact Hre
  iexact Hs

/-- The credit of step `s` to the device before, with what it tells. -/
theorem wp_credit {k : P (F := F)} (s : ℕ) (h1 : 1 ≤ s) (h2 : s ≤ 14) (l : List (Pay nD τ sig)) {W : Waits sig ℕ} :
    iprop(records A ∗ owes (c : Thread nD τ) (tallyL (payCred c s ρ :: l)) W ∗ dutyTok ER (cell (predDev ρ c) (.cred ρ)) 0 (s - 1)
        ∗ credPay (predDev ρ c) ρ s)
      ⊢ iprop((owes (c : Thread nD τ) (tallyL l) W -∗ Wp c k Q) -∗ Wp c (signal (predDev ρ c) (credSem ρ) k) Q) := by
  unfold signal
  iintro ⟨#HR, HO, Ht, Hp⟩ Hk
  ihave H1 := (rec_inv A (predDev ρ c) (.cred ρ)) $$ HR
  icases H1 with ⟨%κ, #HI⟩
  iapply (Rounds.wp_signal 𝒱₀ ER (rd A) (c : Thread nD τ) none (dst := (predDev ρ c : Thread nD τ)) (sem := credSem ρ) (κ := κ) (r := 0) (d := s - 1)
      (by rw [show ((predDev ρ c : Thread nD τ), SemLoc.reg (credSem ρ)) = cell (predDev ρ c) (.cred ρ) from rfl, duties_cred]; exact Finset.mem_range.mpr (by omega))
      ((amount_cred A _ ρ 0 _).trans (by decide)) (ixCred s ρ) (tallyL l) (add_comm _ _)) $$ [HO Ht Hp]
  · isplitr; · iexact HI
    isplitl [HO]; · iexact HO
    isplitl [Ht]; · iexact Ht
    isplitl [Hp]
    · rw [show ((predDev ρ c : Thread nD τ), SemLoc.reg (credSem ρ)) = cell (predDev ρ c) (.cred ρ) from rfl, payload_cred, Nat.sub_add_cancel h1]; iexact Hp
    iapply (rec_reached A (predDev ρ c) (.cred ρ)); iexact HR
  iexact Hk

/-- What a device knows after `n` credits: the payments it has taken, at least `n` of them, each with what it told. -/
def credits (n : ℕ) : sProp 𝕄 :=
  iprop(∃ T : Finset ℕ, ⌜T ⊆ Finset.range 14 ∧ n ≤ T.card⌝ ∗ atPos ER (cell c (.cred ρ)) 0 T n ∗ bigSep T fun d => credPay c ρ (d + 1))

theorem credits_zero : atPos ER (cell c (.cred ρ)) 0 ∅ 0 ⊢ (credits c ρ 0 : sProp 𝕄) := by
  unfold credits
  iintro H
  iexists ∅
  isplitr; · (ipureintro; exact ⟨Finset.empty_subset _, Nat.le_refl _⟩)
  isplitl [H]; · iexact H
  rw [bigSep_empty]; iempintro

/-- Among `n` payments, one is of step `n` or later. -/
theorem late_credit {n : ℕ} (T : Finset ℕ) (hT : n + 1 ≤ T.card) : ∃ d ∈ T, n ≤ d := by
  by_contra h
  have hsub : T ⊆ Finset.range n := fun d hd => Finset.mem_range.mpr (by by_contra h'; exact h ⟨d, hd, by omega⟩)
  have := Finset.card_le_card hsub
  rw [Finset.card_range] at this
  omega

/-- The wait for the credit of step `s`: the need of that step's send is met. -/
theorem wp_awaitCredit {k : P (F := F)} (s : ℕ) (h : s + 1 ≤ 14) (l : List (Pay nD τ sig)) (hl : Over (ixCred (s + 1) ρ) l) {W : Waits sig ℕ} :
    iprop(records A ∗ cred (tallyAt (cell c (.cred ρ)) (ixCred (s + 1) ρ) 1) ∗ owes (c : Thread nD τ) (tallyL l) W ∗ credits c ρ s)
      ⊢ iprop(((∃ W', owes (c : Thread nD τ) (tallyL l) W') ∗ credits c ρ (s + 1) ∗ need c ρ (s + 1) -∗ Wp c k Q)
        -∗ Wp c (await (credSem ρ) 1#32 k) Q) := by
  have hi : ixCred (s + 1) ρ < NL := by have := ρ.isLt; dsimp only [ixCred, NL]; omega
  unfold await credits
  iintro ⟨#HR, Hc, HO, %T, %hT, Hat, HT⟩ Hk
  ihave H1 := (rec_inv A c (.cred ρ)) $$ HR
  icases H1 with ⟨%κ, #HI⟩
  iapply (Rounds.wp_wait 𝒱₀ ER (rd A) (c : Thread nD τ) none (κ := κ) (sm := csem (.cred ρ)) (k' := 1) (cr := Finsupp.single (ixCred (s + 1) ρ) 1)
      (wpE_semWait_eq 𝒱₀ (c : Thread nD τ) none Set.univ) (Set.mem_univ _) {(csem (.cred ρ), ixCred (s + 1) ρ)} (O := tallyL l) (R := 0) (m := s) (T := T)
      (by rw [Util.total_single]) (image_single_subset _ _ _)) $$ [Hc HO Hat]
  · isplitr; · iexact HI
    isplitl [Hc]; · iexact Hc
    isplitl [HO]; · iexact HO
    isplitr; · iapply (may_wait (A := A) c _ hi hl); iexact HR
    iexact Hat
  iintro %S ⟨%hS, HO, Hat, Hnew⟩
  obtain ⟨hTS, hSd, hcard⟩ := hS
  rw [show ((c : Thread nD τ), csem (.cred ρ)) = cell c (.cred ρ) from rfl, duties_cred] at hSd hcard
  rw [expect_cred] at hcard
  have hS : s + 1 ≤ S.card := by
    have := Finset.card_sdiff_add_card_eq_card hSd
    rw [Finset.card_range] at this
    omega
  ihave Hall := (show iprop((bigSep T fun d => credPay c ρ (d + 1)) ∗ bigSep (S \ T) (fun d => (rd A).payload ((c : Thread nD τ), csem (.cred ρ)) 0 d))
      ⊢ (bigSep S fun d => credPay c ρ (d + 1) : sProp 𝕄) from by
    rw [bigSep_congr (s := S \ T) (fun d _ => payload_cred A c ρ 0 d), ← Finset.union_sdiff_of_subset hTS]
    exact Entails.of_eq (by rw [bigSep_union Finset.disjoint_sdiff, Finset.union_sdiff_of_subset hTS]; rfl)) $$ [HT Hnew]
  · isplitl [HT] <;> iassumption
  icases Hall with #Hall
  obtain ⟨d, hd, hnd⟩ := late_credit S hS
  iapply Hk
  isplitl [HO]; · iexists _; iexact HO
  isplitl [Hat]
  · iexists S
    isplitr; · (ipureintro; exact ⟨hSd, hS⟩)
    isplitl [Hat]; · iexact Hat
    iexact Hall
  iapply (credPay_need c ρ (s := s + 1) (s' := d + 1) (by omega))
  iapply (show (bigSep S fun d => credPay c ρ (d + 1) : sProp 𝕄) ⊢ credPay c ρ (d + 1) from bigSep_elim hd)
  iexact Hall

/-- A slot given up for the write that follows: the count goes up, and stays known. -/
theorem give_slot (n : ℕ) :
    iprop(records A ∗ readerAt ES (c, ρ, b) n ∗ slotAny c ρ b)
      ⊢ (|={Set.univ}=> (readerAt ES (c, ρ, b) (n + 1) ∗ released ES (c, ρ, b) (n + 1)) : sProp 𝕄) := by
  iintro ⟨#HR, Hr, Hs⟩
  ihave H1 := (rec_slot A c ρ b) $$ HR
  icases H1 with ⟨%ι, #HI⟩
  iapply (slot_release ES (Set.mem_univ ι) (S := slotAny c ρ b)
    (slot_slot_false (View.set_nonempty (v := (slotM ρ b).view) (by decide))) n)
  isplitr; · iexact HI
  isplitl [Hr] <;> iassumption

/-- A slot taken for the write it was given up for. -/
theorem take_slot (n : ℕ) :
    iprop(records A ∗ released ES (c, ρ, b) n ∗ writeTok ES (c, ρ, b) n) ⊢ (|={Set.univ}=> slotAny c ρ b : sProp 𝕄) := by
  iintro ⟨#HR, Hr, Hs⟩
  ihave H1 := (rec_slot A c ρ b) $$ HR
  icases H1 with ⟨%ι, #HI⟩
  iapply (slot_take ES (Set.mem_univ ι) n)
  isplitr; · iexact HI
  isplitl [Hr] <;> iassumption

end Rules

end Cert.KernelIdeal.Steps

end
-- ==== Proof.IdealRing.lean ====
/- The steps of one ring under the protocol, at a symbolic device, ring and step. -/
module

public import proofs.«01_k».proof.Proof.IdealOps

@[expose] public section

set_option maxRecDepth 16384

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites (Pay Pay.tally tallyL)

variable {F : FTy → Type} [FloatOps F]

local notation "𝕄" => MT nD τ sig ℕ (Elt F) ℕ UU ℕ

/-! ## What a step uses up -/

/-- For the send of step `t`: the right to pay the two semaphores and to write the slot. -/
def datRes (c : Dev nD) (ρ : Fin 4) (t : ℕ) : sProp 𝕄 :=
  iprop(dutyTok ER (cell c (.snd ρ (par t))) (t / 2) 0 ∗ dutyTok ER (cell (succDev ρ c) (.rcv ρ (par (t + 1)))) (t / 2) 0
    ∗ writeTok ES (succDev ρ c, ρ, par (t + 1)) (t / 2 + 1))
/-- For the credits of step `t`: the right to pay one, the right to await one. -/
def crdRes (c : Dev nD) (ρ : Fin 4) (t : ℕ) : sProp 𝕄 :=
  iprop(dutyTok ER (cell (predDev ρ c) (.cred ρ)) 0 (t - 1) ∗ cred (tallyAt (cell c (.cred ρ)) (ixCred t ρ) 1))
/-- For what step `t` brings: the right to await it. -/
def rcvRes (c : Dev nD) (ρ : Fin 4) (t : ℕ) : sProp 𝕄 := cred (tallyAt (cell c (.rcv ρ (par t))) (ixDat t ρ) N)

/-- A middle step's. -/
def midRes (c : Dev nD) (ρ : Fin 4) (t : ℕ) : sProp 𝕄 := iprop(datRes c ρ t ∗ crdRes c ρ t ∗ rcvRes c ρ t)

/-! ## Where a ring stands -/

/-- Device `c` on ring `ρ` between step `t` and step `t + 1`: the send of step `t` is under way, both slots are away. -/
def RingState (c : Dev nD) (ρ : Fin 4) (t : ℕ) : sProp 𝕄 :=
  iprop(cred (tallyAt (cell c (.snd ρ (par t))) 0 N)
    ∗ atPos ER (cell c (.snd ρ (par t))) (t / 2) ∅ 0
    ∗ (atPos ER (cell c (.snd ρ (par (t + 1)))) ((t + 1) / 2) ∅ 0 ∗ reached ER (cell c (.snd ρ (par (t + 1)))) ((t + 1) / 2))
    ∗ (atPos ER (cell c (.rcv ρ (par (t + 1)))) (t / 2) ∅ 0 ∗ reached ER (cell c (.rcv ρ (par (t + 1)))) (t / 2))
    ∗ (atPos ER (cell c (.rcv ρ (par t))) ((t + 1) / 2) ∅ 0 ∗ reached ER (cell c (.rcv ρ (par t))) ((t + 1) / 2))
    ∗ credits c ρ t
    ∗ readerAt ES (c, ρ, par t) ((t + 1) / 2)
    ∗ readerAt ES (c, ρ, par (t + 1)) (t / 2 + 1) ∗ released ES (c, ρ, par (t + 1)) (t / 2 + 1))

/-- Before the first step: the own slot 0 in hand, slot 1 given up. -/
def RingInit (c : Dev nD) (ρ : Fin 4) : sProp 𝕄 :=
  iprop(slotAny c ρ 0
    ∗ (atPos ER (cell c (.snd ρ 0)) 0 ∅ 0 ∗ atPos ER (cell c (.snd ρ 1)) 0 ∅ 0)
    ∗ (atPos ER (cell c (.rcv ρ 0)) 0 ∅ 0 ∗ atPos ER (cell c (.rcv ρ 1)) 0 ∅ 0)
    ∗ atPos ER (cell c (.cred ρ)) 0 ∅ 0
    ∗ readerAt ES (c, ρ, 0) 0 ∗ readerAt ES (c, ρ, 1) 1 ∗ released ES (c, ρ, 1) 1)

/-- After the last step: both slots in hand, every semaphore past its last payment. -/
def RingDone (c : Dev nD) (ρ : Fin 4) : sProp 𝕄 :=
  iprop((slotAny c ρ 0 ∗ slotAny c ρ 1)
    ∗ (atPos ER (cell c (.snd ρ 0)) 8 ∅ 0 ∗ atPos ER (cell c (.snd ρ 1)) 7 ∅ 0)
    ∗ (atPos ER (cell c (.rcv ρ 0)) 7 ∅ 0 ∗ atPos ER (cell c (.rcv ρ 1)) 8 ∅ 0)
    ∗ credits c ρ 14)

theorem par_two (t : ℕ) : par (t + 1 + 1) = par t := Fin.ext (show (t + 1 + 1) % 2 = t % 2 by omega)
theorem half_two (t : ℕ) : (t + 1 + 1) / 2 = t / 2 + 1 := by omega

section Steps

variable (A : Fin 4 → ℕ → Dev nD → FVec F S256x2048 .bf16) (c : Dev nD) (ρ : Fin 4) {Q : PUnit.{1} → sProp (MT nD τ sig ℕ (Elt F) ℕ UU ℕ)}

theorem ring_first {k : P (F := F)} (pd : FVec F S256x2048 .f32) (hA : A ρ 0 c = firstVal pd) (l : List (Pay nD τ sig)) {W : Waits sig ℕ} :
    iprop(records A ∗ RingInit c ρ ∗ need c ρ 0 ∗ datRes c ρ 0 ∗ owes (c : Thread nD τ) (tallyL (payDat c 0 ρ :: l)) W)
      ⊢ iprop(((∃ W', owes (c : Thread nD τ) (tallyL l) W') ∗ RingState c ρ 0 -∗ Wp c k Q) -∗ Wp c (ringFirst c ρ pd k) Q) := by
  have hsend := wp_send_slot (Q := Q) c ρ A (k := k) 0 (by omega) l (W := W)
  have htake := take_slot (succDev ρ c) ρ (par (0 + 1)) A (0 / 2 + 1)
  unfold RingInit need datRes ringFirst RingState
  iintro ⟨#HR, ⟨Hs, ⟨Hs0, Hs1⟩, ⟨Hr0, Hr1⟩, Hcr, Hrd0, Hrd1, #Hrel1⟩, ⟨#Hrel, #Hre⟩, ⟨Ht1, Ht2, Hw⟩, HO⟩ Hk
  iapply (wp_loadSlot_any c ρ 0) $$ Hs
  iintro %u Hs
  iapply (wp_storeSlot c ρ 0 (firstVal pd)) $$ Hs
  iintro Hs
  imod htake $$ [Hw] with Hd
  · isplitr; · iexact HR
    isplitr; · iexact Hrel
    iexact Hw
  iapply hsend $$ [Hs Hd HO Ht1 Ht2]
  · isplitr; · iexact HR
    isplitl [Hs]; · rw [hA]; iexact Hs
    isplitl [Hd]; · iexact Hd
    isplitl [HO]; · iexact HO
    isplitl [Ht1]; · iexact Ht1
    isplitr; · iapply (rec_reached A c (.snd ρ 0)); iexact HR
    isplitl [Ht2]; · iexact Ht2
    iexact Hre
  iintro ⟨Hc, HO⟩
  iapply Hk
  isplitl [HO]; · iexists W; iexact HO
  isplitl [Hc]; · iexact Hc
  isplitl [Hs0]; · iexact Hs0
  isplitl [Hs1]
  · isplitl; · iexact Hs1
    iapply (rec_reached A c (.snd ρ 1)); iexact HR
  isplitl [Hr1]
  · isplitl; · iexact Hr1
    iapply (rec_reached A c (.rcv ρ 1)); iexact HR
  isplitl [Hr0]
  · isplitl; · iexact Hr0
    iapply (rec_reached A c (.rcv ρ 0)); iexact HR
  isplitl [Hcr]
  · iapply (credits_zero c ρ); iexact Hcr
  isplitl [Hrd0]; · iexact Hrd0
  isplitl [Hrd1]; · iexact Hrd1
  iexact Hrel1

theorem ring_mid {k : P (F := F)} (t : ℕ) (ht : t + 1 ≤ 14) (pd : FVec F S256x2048 .f32)
    (hA : A ρ (t + 1) c = nextVal (A ρ t (predDev ρ c)) pd) (l : List (Pay nD τ sig)) (hl : Over (ixCred (t + 1) ρ) l) {W : Waits sig ℕ} :
    iprop(records A ∗ RingState c ρ t ∗ midRes c ρ (t + 1)
        ∗ owes (c : Thread nD τ) (tallyL (payCred c (t + 1) ρ :: payDat c (t + 1) ρ :: l)) W)
      ⊢ iprop(((∃ W', owes (c : Thread nD τ) (tallyL l) W') ∗ RingState c ρ (t + 1) -∗ Wp c k Q) -∗ Wp c (ringMid c (t + 1) ρ pd k) Q) := by
  have hρ := ρ.isLt
  have hl1 : Over (ixCred (t + 1) ρ) (payDat c (t + 1) ρ :: l) :=
    over_cons ⟨rfl, by dsimp only [ixDat, ixCred]; omega, by dsimp only [ixDat, NL]; omega⟩ hl
  have hl2 : Over 0 (payCred c (t + 1) ρ :: payDat c (t + 1) ρ :: l) :=
    over_cons ⟨rfl, by dsimp only [ixCred]; omega, by dsimp only [ixCred, NL]; omega⟩ (over_mono hl1 (Nat.zero_le _))
  have hwS := fun k => wp_waitSend (Q := Q) c ρ (par t) A (k := k) (b' := par (t + 1)) (t / 2) (by show 2 * (t / 2) + t % 2 ≤ 14; omega) _ hl2 (W := W)
  have hgive := give_slot c ρ (par t) A ((t + 1) / 2)
  have htake := take_slot (succDev ρ c) ρ (par (t + 1 + 1)) A ((t + 1) / 2 + 1)
  have hmk : iprop(need (predDev ρ c) ρ (t + 1) ∗ need (predDev ρ c) ρ t) ⊢ (credPay (predDev ρ c) ρ (t + 1) : sProp 𝕄) := by
    unfold credPay; exact Entails.of_eq rfl
  unfold need at hmk
  rw [succ_pred] at hmk
  unfold RingState midRes datRes crdRes rcvRes ringMid
  simp only [par_two, half_two] at hwS hgive htake hmk ⊢
  iintro ⟨#HR, ⟨HcS, HaS, ⟨HaS', #HreS'⟩, ⟨HaR, #HreR⟩, ⟨HaR', #HreR'⟩, Hcr, Hrd, Hrd', #Hrel'⟩, ⟨⟨Ht1, Ht2, Hw⟩, ⟨Htc, Hcc⟩, Hcv⟩, HO⟩ Hk
  iapply hwS $$ [HcS HaS HO]
  · isplitr; · iexact HR
    isplitl [HcS]; · iexact HcS
    isplitl [HO] <;> iassumption
  iintro ⟨⟨%W1, HO⟩, HaS, #HreS, Hs⟩
  imod hgive $$ [Hrd Hs] with ⟨Hrd, #Hrel⟩
  · isplitr; · iexact HR
    isplitl [Hrd] <;> iassumption
  iapply (wp_credit c ρ A (t + 1) (by omega) ht _) $$ [HO Htc]
  · isplitr; · iexact HR
    isplitl [HO]; · iexact HO
    isplitl [Htc]; · iexact Htc
    iapply hmk
    isplitl
    · isplitl; · iexact Hrel
      iexact HreR'
    · isplitl; · iexact Hrel'
      iexact HreR
  iintro HO
  iapply (wp_waitRecv c ρ A t (by omega) _ (over_mono hl1 (by dsimp only [ixDat, ixCred]; omega))) $$ [Hcv HO HaR]
  · isplitr; · iexact HR
    isplitl [Hcv]; · iexact Hcv
    isplitl [HO] <;> iassumption
  iintro ⟨⟨%W2, HO⟩, HaR, #HreR2, Hs⟩
  iapply (wp_loadSlot c ρ (par (t + 1)) (A ρ t (predDev ρ c))) $$ Hs
  iintro %u %hu Hs
  iapply (wp_loadSlot c ρ (par (t + 1)) (A ρ t (predDev ρ c))) $$ Hs
  iintro %u' - Hs
  ihave Hs := (slotHas_any c ρ (par (t + 1)) _) $$ Hs
  rw [hu]
  iapply (wp_storeSlot c ρ (par (t + 1)) (nextVal (A ρ t (predDev ρ c)) pd)) $$ Hs
  iintro Hs
  iapply (wp_awaitCredit c ρ A t ht _ hl1) $$ [Hcc HO Hcr]
  · isplitr; · iexact HR
    isplitl [Hcc]; · iexact Hcc
    isplitl [HO] <;> iassumption
  unfold need
  simp only [par_two]
  iintro ⟨⟨%W3, HO⟩, Hcr, ⟨#HrelN, #HreN⟩⟩
  imod htake $$ [Hw] with Hd
  · isplitr; · iexact HR
    isplitr; · iexact HrelN
    iexact Hw
  have hsend := wp_send_slot (Q := Q) c ρ A (k := k) (t + 1) ht l (W := W3)
  simp only [par_two] at hsend
  iapply hsend $$ [Hs Hd HO Ht1 Ht2]
  · isplitr; · iexact HR
    isplitl [Hs]; · rw [hA]; iexact Hs
    isplitl [Hd]; · iexact Hd
    isplitl [HO]; · iexact HO
    isplitl [Ht1]; · iexact Ht1
    isplitr; · iexact HreS'
    isplitl [Ht2]; · iexact Ht2
    iexact HreN
  iintro ⟨Hc, HO⟩
  iapply Hk
  isplitl [HO]; · iexists W3; iexact HO
  isplitl [Hc]; · iexact Hc
  isplitl [HaS']; · iexact HaS'
  isplitl [HaS]
  · isplitl; · iexact HaS
    iexact HreS
  isplitl [HaR']
  · isplitl; · iexact HaR'
    iexact HreR'
  isplitl [HaR]
  · isplitl; · iexact HaR
    iexact HreR2
  isplitl [Hcr]; · iexact Hcr
  isplitl [Hrd']; · iexact Hrd'
  isplitl [Hrd]; · iexact Hrd
  iexact Hrel

/-- The last step of a ring but for its store: the sum of all sixteen products, scaled, is what is stored. -/
theorem ring_last {k : P (F := F)} (pd : FVec F S256x2048 .f32) (sc : F .f32) (fo : Buf (Elt F) ((oM).view.loc (c : Thread nD τ))) {W : Waits sig ℕ} :
    iprop(records A ∗ RingState c ρ 14 ∗ rcvRes c ρ 15 ∗ owes (c : Thread nD τ) (tallyL []) W
        ∗ ((oM).view.loc (c : Thread nD τ) ↦{fullShare} fo))
      ⊢ iprop(((∃ W', owes (c : Thread nD τ) (tallyL []) W') ∗ RingDone c ρ
            ∗ ((oM).view.loc (c : Thread nD τ) ↦{fullShare}
                ((oM).access (colRect ρ)).write (Elt F) fo (outVal sc (A ρ 14 (predDev ρ c)) pd) Finset.univ) -∗ Wp c k Q)
          -∗ Wp c (ringLast sc ρ pd k) Q) := by
  have hwS := fun k => wp_waitSend (Q := Q) c ρ (par 14) A (k := k) (b' := par 15) (14 / 2) (by decide) _ (over_nil 0) (W := W)
  unfold RingState RingDone rcvRes ringLast
  iintro ⟨#HR, ⟨HcS, HaS, ⟨HaS', -⟩, ⟨HaR, -⟩, ⟨HaR', -⟩, Hcr, -⟩, Hcv, HO, Hout⟩ Hk
  iapply hwS $$ [HcS HaS HO]
  · isplitr; · iexact HR
    isplitl [HcS]; · iexact HcS
    isplitl [HO] <;> iassumption
  iintro ⟨⟨%W1, HO⟩, HaS, -, Hs⟩
  iapply (wp_waitRecv c ρ A 14 (by omega) _ (over_nil _)) $$ [Hcv HO HaR]
  · isplitr; · iexact HR
    isplitl [Hcv]; · iexact Hcv
    isplitl [HO] <;> iassumption
  iintro ⟨⟨%W2, HO⟩, HaR, -, Hs1⟩
  iapply (wp_loadSlot c ρ (par (14 + 1)) (A ρ 14 (predDev ρ c))) $$ Hs1
  iintro %u %hu Hs1
  rw [hu]
  unfold loadOut storeOut
  iapply (wp_load 𝒱₀ (c : Thread nD τ) none Set.univ (m := oM) (Finset.subset_univ _)) $$ Hout
  iintro Hout
  iapply (wp_store 𝒱₀ (c : Thread nD τ) none Set.univ (m := oM) (r := colRect ρ) (Mk := Finset.univ) (Finset.subset_univ _)) $$ Hout
  iintro Hout
  iapply Hk
  isplitl [HO]; · iexists W2; iexact HO
  isplitr [Hout]
  · isplitl [Hs Hs1]
    · isplitl [Hs]; · iexact Hs
      iapply (slotHas_any c ρ 1 _); iexact Hs1
    isplitl [HaS HaS']
    · isplitl [HaS]; · iexact HaS
      iexact HaS'
    isplitl [HaR HaR']
    · isplitl [HaR']; · iexact HaR'
      iexact HaR
    iexact Hcr
  iexact Hout

/-! ## The opening and the close of a ring -/

/-- What a device starts a ring with. -/
def RingPre : sProp 𝕄 :=
  iprop((slotAny c ρ 0 ∗ slotAny c ρ 1)
    ∗ (atPos ER (cell c (.snd ρ 0)) 0 ∅ 0 ∗ atPos ER (cell c (.snd ρ 1)) 0 ∅ 0)
    ∗ (atPos ER (cell c (.rcv ρ 0)) 0 ∅ 0 ∗ atPos ER (cell c (.rcv ρ 1)) 0 ∅ 0)
    ∗ atPos ER (cell c (.cred ρ)) 0 ∅ 0
    ∗ readerAt ES (c, ρ, 0) 0 ∗ readerAt ES (c, ρ, 1) 0)

/-- Slot 1 is given up for the first write, which is what the handshake tells the device before. -/
theorem ring_open : iprop(records A ∗ RingPre c ρ) ⊢ (|={Set.univ}=> (RingInit c ρ ∗ need (predDev ρ c) ρ 0) : sProp 𝕄) := by
  unfold RingPre RingInit need
  rw [succ_pred]
  iintro ⟨#HR, ⟨Hs0, Hs1⟩, Hs, Hr, Hcr, Hrd0, Hrd1⟩
  imod (give_slot c ρ 1 A 0) $$ [Hrd1 Hs1] with ⟨Hrd1, #Hrel⟩
  · isplitr; · iexact HR
    isplitl [Hrd1] <;> iassumption
  imodintro
  isplitl
  · isplitl [Hs0]; · iexact Hs0
    isplitl [Hs]; · iexact Hs
    isplitl [Hr]; · iexact Hr
    isplitl [Hcr]; · iexact Hcr
    isplitl [Hrd0]; · iexact Hrd0
    isplitl [Hrd1]; · iexact Hrd1
    iexact Hrel
  · isplitr; · iexact Hrel
    iapply (rec_reached A c (.rcv ρ (par (0 + 1)))); iexact HR

/-- A semaphore past its last payment is at zero. -/
theorem close_cell (k : Kind) (R : ℕ) (h : ∀ r, R ≤ r → (rd A).duties (cell c k) r = ∅) :
    iprop(records A ∗ atPos ER (cell c k) R ∅ 0) ⊢ (|={Set.univ}=> semVal (cell c k) 0 : sProp 𝕄) := by
  iintro ⟨#HR, H⟩
  ihave H1 := (rec_inv A c k) $$ HR
  icases H1 with ⟨%κ, #HI⟩
  iapply (Rounds.cell_close ER (rd A) (Set.mem_univ κ) (fun h => h) (R := R) h)
  isplitr; · iexact HI
  iexact H

/-- Fourteen credits taken, the credit semaphore is at zero. -/
theorem close_credit : iprop(records A ∗ credits c ρ 14) ⊢ (|={Set.univ}=> semVal (cell c (.cred ρ)) 0 : sProp 𝕄) := by
  unfold credits
  iintro ⟨#HR, ⟨%T, %hT, Hat, -⟩⟩
  ihave H1 := (rec_inv A c (.cred ρ)) $$ HR
  icases H1 with ⟨%κ, #HI⟩
  have hTT : T = Finset.range 14 := Finset.eq_of_subset_of_card_le hT.1 (by rw [Finset.card_range]; exact hT.2)
  imod (Rounds.fupd_skip ER (rd A) (g := cell c (.cred ρ)) (κ := κ) (R := 0) (m := 14) (T := T)
    (by rw [duties_cred, hTT]) (by rw [expect_cred]) (Set.mem_univ κ)) $$ [Hat] with ⟨Hat, -⟩
  · isplitr; · iexact HI
    iexact Hat
  iapply (close_cell A c (.cred ρ) (0 + 1) (fun r hr => duties_cred_none A c ρ r hr))
  isplitr; · iexact HR
  iexact Hat

/-- After the ring: the slots, and its five semaphores at zero. -/
def RingEnd : sProp 𝕄 :=
  iprop((slotAny c ρ 0 ∗ slotAny c ρ 1)
    ∗ (semVal (cell c (.snd ρ 0)) 0 ∗ semVal (cell c (.snd ρ 1)) 0)
    ∗ (semVal (cell c (.rcv ρ 0)) 0 ∗ semVal (cell c (.rcv ρ 1)) 0)
    ∗ semVal (cell c (.cred ρ)) 0)

theorem ring_close : iprop(records A ∗ RingDone c ρ) ⊢ (|={Set.univ}=> RingEnd c ρ : sProp 𝕄) := by
  unfold RingDone RingEnd
  iintro ⟨#HR, Hs, ⟨H0, H1⟩, ⟨G0, G1⟩, Hcr⟩
  imod (close_cell A c (.snd ρ 0) 8 (fun r hr => duties_snd_none A c ρ 0 r (by show 14 < 2 * r + 0; omega))) $$ [H0] with H0
  · isplitr; · iexact HR
    iexact H0
  imod (close_cell A c (.snd ρ 1) 7 (fun r hr => duties_snd_none A c ρ 1 r (by show 14 < 2 * r + 1; omega))) $$ [H1] with H1
  · isplitr; · iexact HR
    iexact H1
  imod (close_cell A c (.rcv ρ 0) 7 (fun r hr => duties_rcv_none A c ρ 0 r (by show 14 < 2 * r + (1 - 0); omega))) $$ [G0] with G0
  · isplitr; · iexact HR
    iexact G0
  imod (close_cell A c (.rcv ρ 1) 8 (fun r hr => duties_rcv_none A c ρ 1 r (by show 14 < 2 * r + (1 - 1); omega))) $$ [G1] with G1
  · isplitr; · iexact HR
    iexact G1
  imod (close_credit A c ρ) $$ [Hcr] with Hcr
  · isplitr; · iexact HR
    iexact Hcr
  imodintro
  isplitl [Hs]; · iexact Hs
  isplitl [H0 H1]
  · isplitl [H0] <;> iassumption
  isplitl [G0 G1]
  · isplitl [G0] <;> iassumption
  iexact Hcr

end Steps

end Cert.KernelIdeal.Steps

end
-- ==== Proof.IdealBody.lean ====
/- The whole body on a symbolic device: the handshake, the sixteen steps on the four rings, the close. -/
module

public import proofs.«01_k».proof.Proof.IdealRing

@[expose] public section

set_option maxRecDepth 16384

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites (Pay Pay.tally tallyL)

variable {F : FTy → Type} [FloatOps F]

local notation "𝕄" => MT nD τ sig ℕ (Elt F) ℕ UU ℕ

/-! ## The values that the rings carry -/

/-- The contents of the four operands and of the output. -/
abbrev XC (F : FTy → Type) := (xM).view.ty.Contents (Elt F)
abbrev WC (F : FTy → Type) := (wM).view.ty.Contents (Elt F)
abbrev SC (F : FTy → Type) := (sxM).view.ty.Contents (Elt F)
abbrev TC (F : FTy → Type) := (swM).view.ty.Contents (Elt F)
abbrev OC (F : FTy → Type) := (oM).view.ty.Contents (Elt F)

/-- The 256 rows of the activations that step `s` reads: for the rings that turn right, for those that turn left. -/
def x1At (X : XC F) (d : Dev nD) (s : ℕ) : Vec F S256x256 .fp8e4m3 :=
  (xM).view.readAt (Elt F) (Rect.unit (s := S4096x256) (k0_off1 d (BitVec.ofNat 32 (pos s).val)) S256x256.size
    (k0_off1_inb d (pos s))).toLoadRect X
def x2At (X : XC F) (d : Dev nD) (s : ℕ) : Vec F S256x256 .fp8e4m3 :=
  (xM).view.readAt (Elt F) (Rect.unit (s := S4096x256) (k0_off2 d (BitVec.ofNat 32 (pos s).val)) S256x256.size
    (k0_off2_inb d (pos s))).toLoadRect X
/-- A ring's quarter of the weight's columns. -/
def wAt (W : WC F) (ρ : Fin 4) : Vec F S256x2048 .fp8e4m3 := (wM).view.readAt (Elt F) (colRect ρ).toLoadRect W

/-- The product that device `d` adds at step `s` on ring `ρ`. -/
def prodAt (X : XC F) (W : WC F) (d : Dev nD) (s : ℕ) (ρ : Fin 4) : FVec F S256x2048 .f32 :=
  prod (if ρ.val < 2 then x1At X d s else x2At X d s) (wAt W ρ)

/-- What device `c` sends at step `t` on ring `ρ`: what the device before sent a step earlier, plus the own product. -/
def acc (X : Dev nD → XC F) (W : Dev nD → WC F) (ρ : Fin 4) : ℕ → Dev nD → FVec F S256x2048 .bf16
  | 0, c => firstVal (prodAt (X c) (W c) c 0 ρ)
  | t + 1, c => nextVal (acc X W ρ t (predDev ρ c)) (prodAt (X c) (W c) c (t + 1) ρ)

/-- The product of the two scales. -/
def scaleAt (a : SC F) (b : TC F) : F .f32 :=
  Scalar.mulf ((sxM).view.readAt (Elt F) (Rect.unit (s := S1) ![0] S1.size inb_S1_S1_0).toLoadRect a (Shape.Idx.first (numel1_S1.symm ▸ Nat.one_pos)))
    ((swM).view.readAt (Elt F) (Rect.unit (s := S1) ![0] S1.size inb_S1_S1_0).toLoadRect b (Shape.Idx.first (numel1_S1.symm ▸ Nat.one_pos)))

/-- The quarter that ring `ρ` writes to the output of device `c`. -/
def outAt (X : Dev nD → XC F) (W : Dev nD → WC F) (a : SC F) (b : TC F) (c : Dev nD) (ρ : Fin 4) : FVec F S256x2048 .f32 :=
  outVal (scaleAt a b) (acc X W ρ 14 (predDev ρ c)) (prodAt (X c) (W c) c 15 ρ)

/-- One quarter written. -/
def put (ρ : Fin 4) (f : OC F) (v : FVec F S256x2048 .f32) : OC F := ((oM).access (colRect ρ)).write (Elt F) f v Finset.univ
/-- The four quarters written. -/
def fill (f : OC F) (v : Fin 4 → FVec F S256x2048 .f32) : OC F := put 3 (put 2 (put 1 (put 0 f (v 0)) (v 1)) (v 2)) (v 3)

/-- One assertion per ring. -/
abbrev all4 (Φ : Fin 4 → sProp 𝕄) : sProp 𝕄 := iprop(Φ 0 ∗ Φ 1 ∗ Φ 2 ∗ Φ 3)

/-- The activations' columns and the weight's rows of a device. -/
def opsXW (c : Dev nD) (X : XC F) (W : WC F) : sProp 𝕄 :=
  iprop(((xM).view.loc (c : Thread nD τ) ↦{fullShare} X) ∗ ((wM).view.loc (c : Thread nD τ) ↦{fullShare} W))
/-- The two scales. -/
def opsS (c : Dev nD) (a : SC F) (b : TC F) : sProp 𝕄 :=
  iprop(((sxM).view.loc (c : Thread nD τ) ↦{fullShare} a) ∗ ((swM).view.loc (c : Thread nD τ) ↦{fullShare} b))
/-- The output block. -/
def outIs (c : Dev nD) (f : OC F) : sProp 𝕄 := ((oM).view.loc (c : Thread nD τ) ↦{fullShare} f)

section Body

variable (X : Dev nD → XC F) (W : Dev nD → WC F) (c : Dev nD) {Q : PUnit.{1} → sProp (MT nD τ sig ℕ (Elt F) ℕ UU ℕ)}

/-- The four products of a step. -/
theorem wp_products (s : ℕ) {k : (a b d e : FVec F S256x2048 .f32) → P (F := F)} (x : XC F) (w : WC F) :
    opsXW c x w ⊢ iprop((opsXW c x w -∗ Wp c (k (prodAt x w c s 0) (prodAt x w c s 1) (prodAt x w c s 2) (prodAt x w c s 3)) Q)
      -∗ Wp c (products c s k) Q) := by
  unfold products loadX1 loadX2 loadW opsXW
  iintro ⟨Hx, Hw⟩ Hk
  iapply (wp_load 𝒱₀ (c : Thread nD τ) none Set.univ (m := xM) (Finset.subset_univ _)) $$ Hx
  iintro Hx
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  iapply (wp_load 𝒱₀ (c : Thread nD τ) none Set.univ (m := wM) (Finset.subset_univ _)) $$ Hw
  iintro Hw
  iapply (wp_load 𝒱₀ (c : Thread nD τ) none Set.univ (m := wM) (Finset.subset_univ _)) $$ Hw
  iintro Hw
  iapply (wp_load 𝒱₀ (c : Thread nD τ) none Set.univ (m := wM) (Finset.subset_univ _)) $$ Hw
  iintro Hw
  iapply Hk
  isplitl [Hx] <;> iassumption

/-- A ring's payments of a step lie above those of the rings before. -/
theorem over_ring (s : ℕ) (hs : s ≤ 14) (ρ ρ' : Fin 4) (h : ρ.val < ρ'.val) (l : List (Pay nD τ sig)) (hl : Over (ixCred s ρ') l) :
    Over (ixCred s ρ) (payCred c s ρ' :: payDat c s ρ' :: l) := by
  have h1 := ρ'.isLt
  refine over_cons ⟨rfl, ?_, ?_⟩ (over_cons ⟨rfl, ?_, ?_⟩ (over_mono hl ?_)) <;> (dsimp only [ixCred, ixDat, NL]; omega)

/-- The first step on the four rings. -/
theorem wp_firstStep {k : P (F := F)} (l : List (Pay nD τ sig)) {V : Waits sig ℕ} :
    iprop(records (acc X W) ∗ opsXW c (X c) (W c) ∗ all4 (fun ρ => RingInit c ρ) ∗ all4 (fun ρ => need c ρ 0) ∗ all4 (fun ρ => datRes c ρ 0)
        ∗ owes (c : Thread nD τ) (tallyL (paysFirst c ++ l)) V)
      ⊢ iprop(((∃ V', owes (c : Thread nD τ) (tallyL l) V') ∗ opsXW c (X c) (W c) ∗ all4 (fun ρ => RingState c ρ 0) -∗ Wp c k Q)
          -∗ Wp c (firstStep c k) Q) := by
  unfold firstStep
  rw [show paysFirst c ++ l = payDat c 0 0 :: payDat c 0 1 :: payDat c 0 2 :: payDat c 0 3 :: l from rfl]
  iintro ⟨#HR, Hxw, ⟨I0, I1, I2, I3⟩, ⟨N0, N1, N2, N3⟩, ⟨D0, D1, D2, D3⟩, HO⟩ Hk
  iapply (wp_products c 0 (X c) (W c)) $$ Hxw
  iintro Hxw
  iapply (ring_first (acc X W) c 0 _ rfl _) $$ [I0 N0 D0 HO]
  · isplitr; · iexact HR
    isplitl [I0]; · iexact I0
    isplitl [N0]; · iexact N0
    isplitl [D0] <;> iassumption
  iintro ⟨⟨%V0, HO⟩, I0⟩
  iapply (ring_first (acc X W) c 1 _ rfl _) $$ [I1 N1 D1 HO]
  · isplitr; · iexact HR
    isplitl [I1]; · iexact I1
    isplitl [N1]; · iexact N1
    isplitl [D1] <;> iassumption
  iintro ⟨⟨%V1, HO⟩, I1⟩
  iapply (ring_first (acc X W) c 2 _ rfl _) $$ [I2 N2 D2 HO]
  · isplitr; · iexact HR
    isplitl [I2]; · iexact I2
    isplitl [N2]; · iexact N2
    isplitl [D2] <;> iassumption
  iintro ⟨⟨%V2, HO⟩, I2⟩
  iapply (ring_first (acc X W) c 3 _ rfl _) $$ [I3 N3 D3 HO]
  · isplitr; · iexact HR
    isplitl [I3]; · iexact I3
    isplitl [N3]; · iexact N3
    isplitl [D3] <;> iassumption
  iintro ⟨HO, I3⟩
  iapply Hk
  isplitl [HO]; · iexact HO
  isplitl [Hxw]; · iexact Hxw
  isplitl [I0]; · iexact I0
  isplitl [I1]; · iexact I1
  isplitl [I2] <;> iassumption

/-- One middle step on the four rings. -/
theorem wp_midStep {k : P (F := F)} (t : ℕ) (ht : t + 1 ≤ 14) (l : List (Pay nD τ sig)) (hl : Over (8 * (t + 2)) l) {V : Waits sig ℕ} :
    iprop(records (acc X W) ∗ opsXW c (X c) (W c) ∗ all4 (fun ρ => RingState c ρ t) ∗ all4 (fun ρ => midRes c ρ (t + 1))
        ∗ owes (c : Thread nD τ) (tallyL (payMid c (t + 1) ++ l)) V)
      ⊢ iprop(((∃ V', owes (c : Thread nD τ) (tallyL l) V') ∗ opsXW c (X c) (W c) ∗ all4 (fun ρ => RingState c ρ (t + 1)) -∗ Wp c k Q)
          -∗ Wp c (midStep c (t + 1) k) Q) := by
  have h3 : Over (ixCred (t + 1) 3) l := over_mono hl (by show 8 * (t + 1) + 2 * 3 + 1 ≤ _; omega)
  have h2 := over_ring c (t + 1) ht 2 3 (by decide) l h3
  have h1 := over_ring c (t + 1) ht 1 2 (by decide) _ h2
  have h0 := over_ring c (t + 1) ht 0 1 (by decide) _ h1
  unfold midStep
  rw [show payMid c (t + 1) ++ l = payCred c (t + 1) 0 :: payDat c (t + 1) 0 :: payCred c (t + 1) 1 :: payDat c (t + 1) 1
    :: payCred c (t + 1) 2 :: payDat c (t + 1) 2 :: payCred c (t + 1) 3 :: payDat c (t + 1) 3 :: l from rfl]
  iintro ⟨#HR, Hxw, ⟨I0, I1, I2, I3⟩, ⟨D0, D1, D2, D3⟩, HO⟩ Hk
  iapply (wp_products c (t + 1) (X c) (W c)) $$ Hxw
  iintro Hxw
  iapply (ring_mid (acc X W) c 0 t ht _ rfl _ h0) $$ [I0 D0 HO]
  · isplitr; · iexact HR
    isplitl [I0]; · iexact I0
    isplitl [D0] <;> iassumption
  iintro ⟨⟨%V0, HO⟩, I0⟩
  iapply (ring_mid (acc X W) c 1 t ht _ rfl _ h1) $$ [I1 D1 HO]
  · isplitr; · iexact HR
    isplitl [I1]; · iexact I1
    isplitl [D1] <;> iassumption
  iintro ⟨⟨%V1, HO⟩, I1⟩
  iapply (ring_mid (acc X W) c 2 t ht _ rfl _ h2) $$ [I2 D2 HO]
  · isplitr; · iexact HR
    isplitl [I2]; · iexact I2
    isplitl [D2] <;> iassumption
  iintro ⟨⟨%V2, HO⟩, I2⟩
  iapply (ring_mid (acc X W) c 3 t ht _ rfl _ h3) $$ [I3 D3 HO]
  · isplitr; · iexact HR
    isplitl [I3]; · iexact I3
    isplitl [D3] <;> iassumption
  iintro ⟨HO, I3⟩
  iapply Hk
  isplitl [HO]; · iexact HO
  isplitl [Hxw]; · iexact Hxw
  isplitl [I0]; · iexact I0
  isplitl [I1]; · iexact I1
  isplitl [I2] <;> iassumption

/-- The middle steps from step `t + 1` on. -/
theorem wp_midSteps {k : P (F := F)} (n t : ℕ) (h : t + n = 14) {V : Waits sig ℕ} :
    iprop(records (acc X W) ∗ opsXW c (X c) (W c) ∗ all4 (fun ρ => RingState c ρ t)
        ∗ (bigSep (Finset.Ico (t + 1) 15) fun s => all4 fun ρ => midRes c ρ s)
        ∗ owes (c : Thread nD τ) (tallyL (paysMid c n (t + 1))) V)
      ⊢ iprop(((∃ V', owes (c : Thread nD τ) (tallyL []) V') ∗ opsXW c (X c) (W c) ∗ all4 (fun ρ => RingState c ρ 14) -∗ Wp c k Q)
          -∗ Wp c (midSteps c n (t + 1) k) Q) := by
  induction n generalizing t V with
  | zero =>
    obtain rfl : t = 14 := by omega
    rw [midSteps, paysMid]
    iintro ⟨-, Hxw, HI, -, HO⟩ Hk
    iapply Hk
    isplitl [HO]; · iexists V; iexact HO
    isplitl [Hxw] <;> iassumption
  | succ n ih =>
    rw [midSteps, paysMid, bigSep_Ico_succ_bot (by omega)]
    iintro ⟨#HR, Hxw, HI, ⟨HD, HDs⟩, HO⟩ Hk
    iapply (wp_midStep X W c t (by omega) _ (over_paysMid c n (t + 2) (by omega))) $$ [Hxw HI HD HO]
    · isplitr; · iexact HR
      isplitl [Hxw]; · iexact Hxw
      isplitl [HI]; · iexact HI
      isplitl [HD] <;> iassumption
    iintro ⟨⟨%V', HO⟩, Hxw, HI⟩
    iapply (ih (t + 1) (by omega)) $$ [Hxw HI HDs HO]
    · isplitr; · iexact HR
      isplitl [Hxw]; · iexact Hxw
      isplitl [HI]; · iexact HI
      isplitl [HDs] <;> iassumption
    iexact Hk

/-- The last step on the four rings. -/
theorem wp_lastStep (a : SC F) (b : TC F) (fo : OC F) {V : Waits sig ℕ} :
    iprop(records (acc X W) ∗ opsXW c (X c) (W c) ∗ all4 (fun ρ => RingState c ρ 14) ∗ all4 (fun ρ => rcvRes c ρ 15)
        ∗ owes (c : Thread nD τ) (tallyL []) V ∗ outIs c fo)
      ⊢ iprop(((∃ V', owes (c : Thread nD τ) (tallyL []) V') ∗ opsXW c (X c) (W c) ∗ all4 (fun ρ => RingDone c ρ)
            ∗ outIs c (fill fo (outAt X W a b c)) -∗ (|={Set.univ}=> Q ⟨⟩))
          -∗ Wp c (lastStep c (scaleAt a b)) Q) := by
  unfold lastStep outIs
  iintro ⟨#HR, Hxw, ⟨I0, I1, I2, I3⟩, ⟨D0, D1, D2, D3⟩, HO, Ho⟩ Hk
  iapply (wp_products c 15 (X c) (W c)) $$ Hxw
  iintro Hxw
  iapply (ring_last (acc X W) c 0 _ _ _) $$ [I0 D0 HO Ho]
  · isplitr; · iexact HR
    isplitl [I0]; · iexact I0
    isplitl [D0]; · iexact D0
    isplitl [HO] <;> iassumption
  iintro ⟨⟨%V0, HO⟩, I0, Ho⟩
  iapply (ring_last (acc X W) c 1 _ _ _) $$ [I1 D1 HO Ho]
  · isplitr; · iexact HR
    isplitl [I1]; · iexact I1
    isplitl [D1]; · iexact D1
    isplitl [HO] <;> iassumption
  iintro ⟨⟨%V1, HO⟩, I1, Ho⟩
  iapply (ring_last (acc X W) c 2 _ _ _) $$ [I2 D2 HO Ho]
  · isplitr; · iexact HR
    isplitl [I2]; · iexact I2
    isplitl [D2]; · iexact D2
    isplitl [HO] <;> iassumption
  iintro ⟨⟨%V2, HO⟩, I2, Ho⟩
  iapply (ring_last (acc X W) c 3 _ _ _) $$ [I3 D3 HO Ho]
  · isplitr; · iexact HR
    isplitl [I3]; · iexact I3
    isplitl [D3]; · iexact D3
    isplitl [HO] <;> iassumption
  iintro ⟨HO, I3, Ho⟩
  iapply (Entails.of_eq (show (iprop(|={Set.univ}=> Q ⟨⟩) : sProp 𝕄) = Wp c (.ret ⟨⟩) Q from rfl))
  iapply Hk
  isplitl [HO]; · iexact HO
  isplitl [Hxw]; · iexact Hxw
  isplitr [Ho]
  · isplitl [I0]; · iexact I0
    isplitl [I1]; · iexact I1
    isplitl [I2] <;> iassumption
  iexact Ho

/-- What a device starts the handshake with. -/
def BarPre : sProp 𝕄 :=
  iprop(atPos ER (cell c .bar) 0 ∅ 0 ∗ cred (tallyAt (cell c .bar) 1 2)
    ∗ dutyTok ER (cell (leftDev c) .bar) 0 1 ∗ dutyTok ER (cell (rightDev c) .bar) 0 0)

/-- A unit of a neighbour's barrier. -/
theorem wp_barSignal (A : Fin 4 → ℕ → Dev nD → FVec F S256x2048 .bf16) {k : P (F := F)} (c' : Dev nD) (d : ℕ) (hd : d = 0 ∨ d = 1) (l : List (Pay nD τ sig)) {V : Waits sig ℕ} :
    iprop(records A ∗ owes (c : Thread nD τ) (tallyL ((cell c' .bar, 1, 1) :: l)) V ∗ dutyTok ER (cell c' .bar) 0 d ∗ barPay c' d)
      ⊢ iprop((owes (c : Thread nD τ) (tallyL l) V -∗ Wp c k Q) -∗ Wp c (signal c' barSem k) Q) := by
  unfold signal
  iintro ⟨#HR, HO, Ht, Hp⟩ Hk
  ihave H1 := (rec_inv A c' .bar) $$ HR
  icases H1 with ⟨%κ, #HI⟩
  iapply (Rounds.wp_signal 𝒱₀ ER (rd A) (c : Thread nD τ) none (dst := (c' : Thread nD τ)) (sem := barSem) (κ := κ) (r := 0) (d := d)
      (by rw [show ((c' : Thread nD τ), SemLoc.reg barSem) = cell c' .bar from rfl, duties_bar]; rcases hd with rfl | rfl <;> decide)
      ((amount_bar A _ 0 _).trans (by decide)) 1 (tallyL l) (add_comm _ _)) $$ [HO Ht Hp]
  · isplitr; · iexact HI
    isplitl [HO]; · iexact HO
    isplitl [Ht]; · iexact Ht
    isplitl [Hp]
    · rw [show ((c' : Thread nD τ), SemLoc.reg barSem) = cell c' .bar from rfl, payload_bar]; iexact Hp
    iapply (rec_reached A c' .bar); iexact HR
  iexact Hk

/-- The wait for both neighbours. -/
theorem wp_barWait (A : Fin 4 → ℕ → Dev nD → FVec F S256x2048 .bf16) {k : P (F := F)} (l : List (Pay nD τ sig)) (hl : Over 1 l) {V : Waits sig ℕ} :
    iprop(records A ∗ cred (tallyAt (cell c .bar) 1 2) ∗ owes (c : Thread nD τ) (tallyL l) V ∗ atPos ER (cell c .bar) 0 ∅ 0)
      ⊢ iprop(((∃ V', owes (c : Thread nD τ) (tallyL l) V') ∗ atPos ER (cell c .bar) 1 ∅ 0 ∗ all4 (fun ρ => need c ρ 0) -∗ Wp c k Q)
          -∗ Wp c (await barSem 2#32 k) Q) := by
  unfold await
  iintro ⟨#HR, Hc, HO, Hat⟩ Hk
  ihave H1 := (rec_inv A c .bar) $$ HR
  icases H1 with ⟨%κ, #HI⟩
  iapply (Rounds.wp_wait_rest_token 𝒱₀ ER (rd A) (c : Thread nD τ) none (κ := κ) (sm := csem .bar) (k' := 2)
      (wpE_semWait_eq 𝒱₀ (c : Thread nD τ) none Set.univ) (Set.mem_univ _) 1 (O := tallyL l) (R := 0) (m := 0) (T := ∅)
      (by rw [Nat.zero_add, expect_bar])) $$ [Hc HO Hat]
  · isplitr; · iexact HI
    isplitl [Hc]; · iexact Hc
    isplitl [HO]; · iexact HO
    isplitr; · iapply (may_wait (A := A) c _ (by decide) hl); iexact HR
    iexact Hat
  iintro ⟨HO, Hat, -, Hp⟩
  ihave Hq := (Entails.of_eq (rest_bar A c)) $$ Hp
  icases Hq with ⟨⟨H2, H3⟩, H0, H1⟩
  iapply Hk
  isplitl [HO]; · iexists _; iexact HO
  isplitl [Hat]; · iexact Hat
  isplitl [H0]; · iexact H0
  isplitl [H1]; · iexact H1
  isplitl [H2] <;> iassumption

theorem over_start : Over 1 (paysFirst c ++ paysMid c 14 1) := by
  refine over_append ?_ (over_mono (over_paysMid c 14 1 (by omega)) (by omega))
  unfold paysFirst
  refine over_cons ⟨rfl, ?_, ?_⟩ <| over_cons ⟨rfl, ?_, ?_⟩ <| over_cons ⟨rfl, ?_, ?_⟩ <| over_cons ⟨rfl, ?_, ?_⟩ <| over_nil _ <;>
  (dsimp only [ixDat, NL]; simp only [Fin.val_zero, Fin.val_one, Fin.val_two, show (3 : Fin 4).val = 3 from rfl]; omega)

/-- The handshake and the two scales. -/
theorem wp_prologue (A : Fin 4 → ℕ → Dev nD → FVec F S256x2048 .bf16) {k : F .f32 → P (F := F)} (a : SC F) (b : TC F) {V : Waits sig ℕ} :
    iprop(records A ∗ all4 (fun ρ => RingPre c ρ) ∗ BarPre c ∗ opsS c a b ∗ owes (c : Thread nD τ) (tallyL (pays c)) V)
      ⊢ iprop(((∃ V', owes (c : Thread nD τ) (tallyL (paysFirst c ++ paysMid c 14 1)) V') ∗ atPos ER (cell c .bar) 1 ∅ 0 ∗ opsS c a b
            ∗ all4 (fun ρ => RingInit c ρ) ∗ all4 (fun ρ => need c ρ 0) -∗ Wp c (k (scaleAt a b)) Q)
          -∗ Wp c (prologue c k) Q) := by
  unfold prologue BarPre opsS pays
  iintro ⟨#HR, ⟨I0, I1, I2, I3⟩, ⟨Hat, Hc, HtL, HtR⟩, ⟨Ha, Hb⟩, HO⟩ Hk
  imod (ring_open A c 0) $$ [I0] with ⟨I0, N0⟩
  · isplitr; · iexact HR
    iexact I0
  imod (ring_open A c 1) $$ [I1] with ⟨I1, N1⟩
  · isplitr; · iexact HR
    iexact I1
  imod (ring_open A c 2) $$ [I2] with ⟨I2, N2⟩
  · isplitr; · iexact HR
    iexact I2
  imod (ring_open A c 3) $$ [I3] with ⟨I3, N3⟩
  · isplitr; · iexact HR
    iexact I3
  iapply (wp_barSignal c A (leftDev c) 1 (Or.inr rfl) _) $$ [HO HtL N0 N1]
  · isplitr; · iexact HR
    isplitl [HO]; · iexact HO
    isplitl [HtL]; · iexact HtL
    rw [show (barPay (leftDev c) 1 : sProp 𝕄) = iprop(need (leftDev c) 0 0 ∗ need (leftDev c) 1 0) from rfl]
    isplitl [N0]; · iexact N0
    iexact N1
  iintro HO
  iapply (wp_barSignal c A (rightDev c) 0 (Or.inl rfl) _) $$ [HO HtR N2 N3]
  · isplitr; · iexact HR
    isplitl [HO]; · iexact HO
    isplitl [HtR]; · iexact HtR
    rw [show (barPay (rightDev c) 0 : sProp 𝕄) = iprop(need (rightDev c) 2 0 ∗ need (rightDev c) 3 0) from rfl]
    isplitl [N2]; · iexact N2
    iexact N3
  iintro HO
  iapply (wp_barWait c A _ (over_start c)) $$ [HO Hc Hat]
  · isplitr; · iexact HR
    isplitl [Hc]; · iexact Hc
    isplitl [HO] <;> iassumption
  iintro ⟨HO, Hat, HN⟩
  iapply (wp_load 𝒱₀ (c : Thread nD τ) none Set.univ (m := sxM) (Finset.subset_univ _)) $$ Ha
  iintro Ha
  iapply (wp_load 𝒱₀ (c : Thread nD τ) none Set.univ (m := swM) (Finset.subset_univ _)) $$ Hb
  iintro Hb
  iapply Hk
  isplitl [HO]; · iexact HO
  isplitl [Hat]; · iexact Hat
  isplitl [Ha Hb]
  · isplitl [Ha] <;> iassumption
  isplitr [HN]
  · isplitl [I0]; · iexact I0
    isplitl [I1]; · iexact I1
    isplitl [I2] <;> iassumption
  iexact HN

/-- Everything of the protocol that a device starts with, but for the records that all share. -/
def DevStart : sProp 𝕄 :=
  iprop(all4 (fun ρ => RingPre c ρ) ∗ BarPre c ∗ all4 (fun ρ => datRes c ρ 0)
    ∗ (bigSep (Finset.Ico 1 15) fun s => all4 fun ρ => midRes c ρ s) ∗ all4 (fun ρ => rcvRes c ρ 15))

/-- Everything that it ends with. -/
def DevEnd : sProp 𝕄 := iprop(all4 (fun ρ => RingEnd c ρ) ∗ semVal (cell c .bar) 0)

/-- The whole body: from the protocol's start, with any contents of the output, to the output written and all semaphores at zero. -/
theorem wp_body (a : SC F) (b : TC F) (fo : OC F) {V : Waits sig ℕ} :
    iprop(records (acc X W) ∗ DevStart c ∗ opsXW c (X c) (W c) ∗ opsS c a b ∗ outIs c fo ∗ owes (c : Thread nD τ) (tallyL (pays c)) V)
      ⊢ iprop(((∃ V', owes (c : Thread nD τ) (tallyL []) V') ∗ DevEnd c ∗ opsXW c (X c) (W c) ∗ opsS c a b
            ∗ outIs c (fill fo (outAt X W a b c)) -∗ Q ⟨⟩)
          -∗ Wp c body Q) := by
  unfold DevStart DevEnd body
  iintro ⟨#HR, ⟨HI, HB, HD, HM, HL⟩, Hxw, Hs, Ho, HO⟩ Hk
  rw [Wp, wp_deviceId]
  iapply (wp_prologue c (acc X W) a b) $$ [HI HB Hs HO]
  · isplitr; · iexact HR
    isplitl [HI]; · iexact HI
    isplitl [HB]; · iexact HB
    isplitl [Hs] <;> iassumption
  iintro ⟨⟨%V1, HO⟩, Hat, Hs, HI, HN⟩
  iapply (wp_firstStep X W c _) $$ [HI HN HD Hxw HO]
  · isplitr; · iexact HR
    isplitl [Hxw]; · iexact Hxw
    isplitl [HI]; · iexact HI
    isplitl [HN]; · iexact HN
    isplitl [HD] <;> iassumption
  iintro ⟨⟨%V2, HO⟩, Hxw, HI⟩
  iapply (wp_midSteps X W c 14 0 rfl) $$ [HI HM Hxw HO]
  · isplitr; · iexact HR
    isplitl [Hxw]; · iexact Hxw
    isplitl [HI]; · iexact HI
    isplitl [HM] <;> iassumption
  iintro ⟨⟨%V3, HO⟩, Hxw, HI⟩
  iapply (wp_lastStep X W c a b fo) $$ [HI HL Hxw HO Ho]
  · isplitr; · iexact HR
    isplitl [Hxw]; · iexact Hxw
    isplitl [HI]; · iexact HI
    isplitl [HL]; · iexact HL
    isplitl [HO] <;> iassumption
  iintro ⟨HO, Hxw, ⟨I0, I1, I2, I3⟩, Ho⟩
  imod (ring_close (acc X W) c 0) $$ [I0] with I0
  · isplitr; · iexact HR
    iexact I0
  imod (ring_close (acc X W) c 1) $$ [I1] with I1
  · isplitr; · iexact HR
    iexact I1
  imod (ring_close (acc X W) c 2) $$ [I2] with I2
  · isplitr; · iexact HR
    iexact I2
  imod (ring_close (acc X W) c 3) $$ [I3] with I3
  · isplitr; · iexact HR
    iexact I3
  imod (close_cell (acc X W) c .bar 1 (fun r hr => duties_bar_none (acc X W) c r hr)) $$ [Hat] with Hat
  · isplitr; · iexact HR
    iexact Hat
  imodintro
  iapply Hk
  isplitl [HO]; · iexact HO
  isplitr [Hxw Hs Ho]
  · isplitr [Hat]
    · isplitl [I0]; · iexact I0
      isplitl [I1]; · iexact I1
      isplitl [I2] <;> iassumption
    iexact Hat
  isplitl [Hxw]; · iexact Hxw
  isplitl [Hs] <;> iassumption

end Body

end Cert.KernelIdeal.Steps

end
-- ==== Proof.IdealDeal.lean ====
/- What the launch deals out: every device's positions, tokens and credits, from the whole machine's. -/
module

public import proofs.«01_k».proof.Proof.IdealBody
public import Idealize.ShloMosaic.Lib.Ring

@[expose] public section

set_option maxRecDepth 16384

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites (Pay Pay.tally tallyL)

variable {F : FTy → Type} [FloatOps F]

local notation "𝕄" => MT nD τ sig ℕ (Elt F) ℕ UU ℕ

/-! ## Families over the rings, the slots, the kinds and the steps -/

theorem bigSep_fin4 (Φ : Fin 4 → sProp 𝕄) : bigSep Finset.univ Φ = all4 Φ :=
  bigSep_univ_eq_bigSepL [0, 1, 2, 3] (by decide) (by decide) Φ
theorem bigSep_fin2 (Φ : Fin 2 → sProp 𝕄) : bigSep Finset.univ Φ = iprop(Φ 0 ∗ Φ 1) :=
  bigSep_univ_eq_bigSepL [0, 1] (by decide) (by decide) Φ
theorem bigSep_pair (Φ : Fin 4 × Fin 2 → sProp 𝕄) :
    bigSep Finset.univ Φ = bigSep Finset.univ fun ρ => iprop(Φ (ρ, 0) ∗ Φ (ρ, 1)) := by
  rw [bigSep_univ_prod]
  exact bigSep_congr fun ρ _ => bigSep_fin2 _
theorem bigSep_kind (Φ : Kind → sProp 𝕄) :
    bigSep Finset.univ Φ = iprop(Φ .bar ∗ (bigSep Finset.univ fun ρ => Φ (.cred ρ))
      ∗ (bigSep Finset.univ fun ρ => iprop(Φ (.snd ρ 0) ∗ Φ (.snd ρ 1))) ∗ bigSep Finset.univ fun ρ => iprop(Φ (.rcv ρ 0) ∗ Φ (.rcv ρ 1))) := by
  rw [bigSep_univ_equiv kindEquiv Φ, BI.bigSep_univ_sum, BI.bigSep_univ_sum, BI.bigSep_univ_sum, bigSep_pair, bigSep_pair,
    Finset.univ_unique, bigSep_singleton]
  rfl

/-- Steps counted from one. -/
theorem bigSep_steps (n : ℕ) (Φ : ℕ → sProp 𝕄) :
    bigSep (Finset.range n) (fun i => Φ (i + 1)) = bigSep (Finset.Ico 1 (n + 1)) Φ := by
  have h : Finset.Ico 1 (n + 1) = (Finset.range n).map (addRightEmbedding 1) := by
    ext x
    rw [Finset.mem_map, Finset.mem_Ico]
    constructor
    · intro hx
      exact ⟨x - 1, Finset.mem_range.mpr (by omega), show x - 1 + 1 = x by omega⟩
    · rintro ⟨y, hy, rfl⟩
      have := Finset.mem_range.mp hy
      show 1 ≤ y + 1 ∧ y + 1 < n + 1
      omega
  rw [h, bigSep_map]
  rfl

/-- A sum over an interval, its first term taken out. -/
theorem sum_first {α : Type} [AddCommMonoid α] {a b : ℕ} (h : a < b) (f : ℕ → α) :
    ∑ t ∈ Finset.Ico a b, f t = f a + ∑ t ∈ Finset.Ico (a + 1) b, f t := by
  rw [show Finset.Ico a b = insert a (Finset.Ico (a + 1) b) by ext x; simp only [Finset.mem_Ico, Finset.mem_insert]; omega,
    Finset.sum_insert (by rw [Finset.mem_Ico]; omega)]

/-! ## The cells and the tokens -/

theorem cellOf_injective : Function.Injective (fun x : Dev nD × Kind => cell x.1 x.2) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨fun x : Dev nD × Kind => cell x.1 x.2, cellOf_injective⟩

/-- The payments of one device: to the left and to the right barrier, credits by step, sends' own semaphores, receivers' semaphores. -/
abbrev TokIx : Type := Unit ⊕ Unit ⊕ (Fin 14 × Fin 4) ⊕ (Fin 15 × Fin 4) ⊕ (Fin 15 × Fin 4)

/-- The token of each payment: cell, round, duty. -/
def tokOf (x : Dev nD × TokIx) : GSem nD τ sig × ℕ × ℕ := match x.2 with
  | .inl _ => (cell (leftDev x.1) .bar, 0, 1)
  | .inr (.inl _) => (cell (rightDev x.1) .bar, 0, 0)
  | .inr (.inr (.inl y)) => (cell (predDev y.2 x.1) (.cred y.2), 0, y.1.val)
  | .inr (.inr (.inr (.inl y))) => (cell x.1 (.snd y.2 (par y.1.val)), y.1.val / 2, 0)
  | .inr (.inr (.inr (.inr y))) => (cell (succDev y.2 x.1) (.rcv y.2 (par (y.1.val + 1))), y.1.val / 2, 0)

/-- Whose payment a token is. -/
def payerOf (y : GSem nD τ sig × ℕ × ℕ) : Option (Dev nD × TokIx) := match kindOf y.1.2 with
  | some .bar => if y.2.2 = 1 then some (rightDev y.1.1.1, .inl ()) else some (leftDev y.1.1.1, .inr (.inl ()))
  | some (.cred ρ) => if h : y.2.2 < 14 then some (succDev ρ y.1.1.1, .inr (.inr (.inl (⟨y.2.2, h⟩, ρ)))) else none
  | some (.snd ρ b) => if h : 2 * y.2.1 + b.val < 15 then some (y.1.1.1, .inr (.inr (.inr (.inl (⟨2 * y.2.1 + b.val, h⟩, ρ))))) else none
  | some (.rcv ρ b) => if h : 2 * y.2.1 + (1 - b.val) < 15
      then some (predDev ρ y.1.1.1, .inr (.inr (.inr (.inr (⟨2 * y.2.1 + (1 - b.val), h⟩, ρ))))) else none
  | none => none

theorem payerOf_tokOf (x : Dev nD × TokIx) : payerOf (tokOf x) = some x := by
  obtain ⟨c, _ | _ | ⟨i, ρ⟩ | ⟨t, ρ⟩ | ⟨t, ρ⟩⟩ := x
  · dsimp only [payerOf, tokOf]
    rw [kindOf_csem]
    show (if (1 : ℕ) = 1 then some (rightDev (leftDev c), _) else _) = _
    rw [if_pos rfl, right_left]
  · dsimp only [payerOf, tokOf]
    rw [kindOf_csem]
    show (if (0 : ℕ) = 1 then _ else some (leftDev (rightDev c), _)) = _
    rw [if_neg (by decide), left_right]
  · dsimp only [payerOf, tokOf]
    rw [kindOf_csem]
    show (if h : i.val < 14 then some (succDev ρ (predDev ρ c), _) else none) = _
    rw [dif_pos i.isLt, succ_pred]
  · have e : 2 * (t.val / 2) + (par t.val).val = t.val := by
      show 2 * (t.val / 2) + t.val % 2 = t.val
      omega
    have h : 2 * (t.val / 2) + (par t.val).val < 15 := by rw [e]; exact t.isLt
    dsimp only [payerOf, tokOf]
    rw [kindOf_csem]
    show (if h : 2 * (t.val / 2) + (par t.val).val < 15 then some (c, _) else none) = _
    rw [dif_pos h]
    simp only [e]
  · have e : 2 * (t.val / 2) + (1 - (par (t.val + 1)).val) = t.val := by
      show 2 * (t.val / 2) + (1 - (t.val + 1) % 2) = t.val
      omega
    have h : 2 * (t.val / 2) + (1 - (par (t.val + 1)).val) < 15 := by rw [e]; exact t.isLt
    dsimp only [payerOf, tokOf]
    rw [kindOf_csem]
    show (if h : 2 * (t.val / 2) + (1 - (par (t.val + 1)).val) < 15 then some (predDev ρ (succDev ρ c), _) else none) = _
    rw [dif_pos h, pred_succ]
    simp only [e]

theorem tokOf_injective : Function.Injective tokOf := fun x y h => by
  have := congrArg payerOf h
  rw [payerOf_tokOf, payerOf_tokOf] at this
  exact Option.some.inj this

def ringToks : Finset (GSem nD τ sig × ℕ × ℕ) := Finset.univ.map ⟨tokOf, tokOf_injective⟩

/-- The right to write a slot, by the writer, its step and its ring. -/
def writeOf (x : Dev nD × Fin 15 × Fin 4) : Key × ℕ := ((succDev x.2.2 x.1, x.2.2, par (x.2.1.val + 1)), x.2.1.val / 2)

theorem writeOf_injective : Function.Injective writeOf := by
  rintro ⟨c, t, ρ⟩ ⟨c', t', ρ'⟩ h
  have h1 : ρ = ρ' := congrArg (fun y : Key × ℕ => y.1.2.1) h
  subst h1
  have h2 : succDev ρ c = succDev ρ c' := congrArg (fun y : Key × ℕ => y.1.1) h
  have h3 : (t.val + 1) % 2 = (t'.val + 1) % 2 := congrArg (fun y : Key × ℕ => y.1.2.2.val) h
  have h4 : t.val / 2 = t'.val / 2 := congrArg (fun y : Key × ℕ => y.2) h
  have h5 : c = c' := by
    have := congrArg (predDev ρ) h2
    rwa [pred_succ, pred_succ] at this
  have h6 : t = t' := Fin.ext (by omega)
  rw [h5, h6]

theorem writes_sub : Finset.univ.map ⟨writeOf, writeOf_injective⟩ ⊆ (Finset.univ : Finset Key) ×ˢ Finset.range 8 := fun y hy => by
  obtain ⟨⟨c, t, ρ⟩, -, rfl⟩ := Finset.mem_map.mp hy
  refine Finset.mem_product.mpr ⟨Finset.mem_univ _, Finset.mem_range.mpr ?_⟩
  show t.val / 2 < 8
  have := t.isLt
  omega

/-- The tokens of one device's payments, -/
def toks (c : Dev nD) : sProp 𝕄 :=
  iprop(dutyTok ER (cell (leftDev c) .bar) 0 1 ∗ dutyTok ER (cell (rightDev c) .bar) 0 0
    ∗ (bigSep Finset.univ fun i : Fin 14 => bigSep Finset.univ fun ρ : Fin 4 => dutyTok ER (cell (predDev ρ c) (.cred ρ)) 0 i.val)
    ∗ (bigSep Finset.univ fun t : Fin 15 => bigSep Finset.univ fun ρ : Fin 4 => dutyTok ER (cell c (.snd ρ (par t.val))) (t.val / 2) 0)
    ∗ (bigSep Finset.univ fun t : Fin 15 => bigSep Finset.univ fun ρ : Fin 4 =>
        dutyTok ER (cell (succDev ρ c) (.rcv ρ (par (t.val + 1)))) (t.val / 2) 0))
/-- and of its writes. -/
def writes (c : Dev nD) : sProp 𝕄 :=
  bigSep Finset.univ fun t : Fin 15 => bigSep Finset.univ fun ρ : Fin 4 => writeTok ES (succDev ρ c, ρ, par (t.val + 1)) (t.val / 2 + 1)

theorem toks_eq : bigSep ringToks (fun x => (dutyTok ER x.1 x.2.1 x.2.2 : sProp 𝕄)) = bigSep Finset.univ fun c : Dev nD => toks c := by
  unfold ringToks
  rw [bigSep_map, bigSep_univ_prod]
  refine bigSep_congr fun c _ => ?_
  unfold toks
  rw [BI.bigSep_univ_sum, BI.bigSep_univ_sum, BI.bigSep_univ_sum, BI.bigSep_univ_sum, bigSep_univ_prod, bigSep_univ_prod, bigSep_univ_prod,
    Finset.univ_unique, bigSep_singleton, bigSep_singleton]
  rfl

theorem writes_take : bigSep ((Finset.univ : Finset Key) ×ˢ Finset.range 8) (fun x => (writeTok ES x.1 (x.2 + 1) : sProp 𝕄))
    ⊢ bigSep Finset.univ fun c : Dev nD => writes c := by
  have h : bigSep (Finset.univ.map ⟨writeOf, writeOf_injective⟩) (fun x => (writeTok ES x.1 (x.2 + 1) : sProp 𝕄))
      = bigSep Finset.univ fun c : Dev nD => writes c := by
    rw [bigSep_map, bigSep_univ_prod]
    refine bigSep_congr fun c _ => ?_
    unfold writes
    rw [bigSep_univ_prod]
    rfl
  exact (BI.bigSep_subset writes_sub).trans (Entails.of_eq h)

/-! ## What one device starts with -/

/-- Its positions at its semaphores and its slots, its tokens. -/
def linear (c : Dev nD) : sProp 𝕄 :=
  iprop((bigSep Finset.univ fun k : Kind => atPos ER (cell c k) 0 ∅ 0)
    ∗ (bigSep Finset.univ fun y : Fin 4 × Fin 2 => readerAt ES (c, y.1, y.2) 0) ∗ toks c ∗ writes c)

/-- Its credits: for the handshake, for the credits of the middle steps, for what the steps bring. -/
def crds (c : Dev nD) : sProp 𝕄 :=
  iprop(cred (tallyAt (cell c .bar) 1 2)
    ∗ (bigSep (Finset.Ico 1 15) fun t => bigSep Finset.univ fun ρ : Fin 4 => cred (tallyAt (cell c (.cred ρ)) (ixCred t ρ) 1))
    ∗ (bigSep (Finset.range 15) fun t => bigSep Finset.univ fun ρ : Fin 4 => rcvRes c ρ (t + 1)))

/-- Its slots. -/
def slots (c : Dev nD) : sProp 𝕄 := bigSep Finset.univ fun y : Fin 4 × Fin 2 => slotAny c y.1 y.2

theorem dat_all (c : Dev nD) :
    (iprop((bigSep Finset.univ fun t : Fin 15 => bigSep Finset.univ fun ρ : Fin 4 => dutyTok ER (cell c (.snd ρ (par t.val))) (t.val / 2) 0)
      ∗ (bigSep Finset.univ fun t : Fin 15 => bigSep Finset.univ fun ρ : Fin 4 =>
          dutyTok ER (cell (succDev ρ c) (.rcv ρ (par (t.val + 1)))) (t.val / 2) 0)
      ∗ writes c) : sProp 𝕄)
      = iprop((bigSep Finset.univ fun ρ => datRes c ρ 0) ∗ bigSep (Finset.Ico 1 15) fun t => bigSep Finset.univ fun ρ => datRes c ρ t) := by
  have h := bigSep_Ico_succ_bot (a := 0) (b := 15) (by decide) (fun t => (bigSep Finset.univ fun ρ : Fin 4 => datRes c ρ t : sProp 𝕄))
  rw [← h, ← Finset.range_eq_Ico,
    ← Ring.bigSep_fin_eq_range 15 (fun t : Fin 15 => (bigSep Finset.univ fun ρ : Fin 4 => datRes c ρ t.val : sProp 𝕄)) _ (fun t ht => rfl)]
  unfold writes datRes
  simp only [bigSep_sep']

theorem crd_all (c : Dev nD) :
    (iprop((bigSep Finset.univ fun i : Fin 14 => bigSep Finset.univ fun ρ : Fin 4 => dutyTok ER (cell (predDev ρ c) (.cred ρ)) 0 i.val)
      ∗ (bigSep (Finset.Ico 1 15) fun t => bigSep Finset.univ fun ρ : Fin 4 => cred (tallyAt (cell c (.cred ρ)) (ixCred t ρ) 1))) : sProp 𝕄)
      = bigSep (Finset.Ico 1 15) fun t => bigSep Finset.univ fun ρ => crdRes c ρ t := by
  have h1 := Ring.bigSep_fin_eq_range 14 (fun i : Fin 14 => (bigSep Finset.univ fun ρ : Fin 4 => dutyTok ER (cell (predDev ρ c) (.cred ρ)) 0 i.val : sProp 𝕄))
    (fun i => bigSep Finset.univ fun ρ : Fin 4 => dutyTok ER (cell (predDev ρ c) (.cred ρ)) 0 (i + 1 - 1)) (fun t ht => rfl)
  have h2 := bigSep_steps 14 (fun t => (bigSep Finset.univ fun ρ : Fin 4 => dutyTok ER (cell (predDev ρ c) (.cred ρ)) 0 (t - 1) : sProp 𝕄))
  rw [h1, h2]
  unfold crdRes
  simp only [bigSep_sep']

theorem rcv_all (c : Dev nD) :
    (bigSep (Finset.range 15) fun t => bigSep Finset.univ fun ρ : Fin 4 => rcvRes c ρ (t + 1) : sProp 𝕄)
      = iprop((bigSep Finset.univ fun ρ => rcvRes c ρ 15) ∗ bigSep (Finset.Ico 1 15) fun t => bigSep Finset.univ fun ρ => rcvRes c ρ t) := by
  rw [bigSep_steps 15 (fun t => (bigSep Finset.univ fun ρ : Fin 4 => rcvRes c ρ t : sProp 𝕄))]
  exact bigSep_Ico_succ_top (a := 1) (b := 14 + 1) (by decide) _

theorem mid_all (c : Dev nD) :
    (bigSep (Finset.Ico 1 15) fun s => all4 fun ρ => midRes c ρ s : sProp 𝕄)
      = iprop((bigSep (Finset.Ico 1 15) fun t => bigSep Finset.univ fun ρ => datRes c ρ t)
        ∗ (bigSep (Finset.Ico 1 15) fun t => bigSep Finset.univ fun ρ => crdRes c ρ t)
        ∗ bigSep (Finset.Ico 1 15) fun t => bigSep Finset.univ fun ρ => rcvRes c ρ t) := by
  rw [bigSep_congr fun s _ => (bigSep_fin4 fun ρ => midRes (F := F) c ρ s).symm]
  unfold midRes
  simp only [bigSep_sep']

theorem ringPre_all (c : Dev nD) :
    (bigSep Finset.univ fun ρ => RingPre c ρ : sProp 𝕄)
      = iprop(slots c
        ∗ (bigSep Finset.univ fun ρ => iprop(atPos ER (cell c (.snd ρ 0)) 0 ∅ 0 ∗ atPos ER (cell c (.snd ρ 1)) 0 ∅ 0))
        ∗ (bigSep Finset.univ fun ρ => iprop(atPos ER (cell c (.rcv ρ 0)) 0 ∅ 0 ∗ atPos ER (cell c (.rcv ρ 1)) 0 ∅ 0))
        ∗ (bigSep Finset.univ fun ρ => atPos ER (cell c (.cred ρ)) 0 ∅ 0)
        ∗ bigSep Finset.univ fun y : Fin 4 × Fin 2 => readerAt ES (c, y.1, y.2) 0) := by
  unfold RingPre slots
  rw [bigSep_pair, bigSep_pair]
  simp only [bigSep_sep']

/-- All of it together is what the body starts with. -/
theorem start_of (c : Dev nD) : iprop(linear c ∗ crds c ∗ slots c) ⊢ (DevStart c : sProp 𝕄) := by
  unfold DevStart BarPre linear crds toks
  rw [← bigSep_fin4 fun ρ => RingPre c ρ, ← bigSep_fin4 fun ρ => datRes c ρ 0, ← bigSep_fin4 fun ρ => rcvRes c ρ 15, ringPre_all, mid_all,
    rcv_all, bigSep_kind]
  iintro ⟨⟨⟨Hb, Hc, Hs, Hr⟩, Hrd, ⟨Tl, Tr, Tc, Ts, Tv⟩, Hw⟩, ⟨Cb, Cc, ⟨C15, Cr⟩⟩, Hsl⟩
  ihave HD := (Entails.of_eq (dat_all (F := F) c)) $$ [Ts Tv Hw]
  · isplitl [Ts]; · iexact Ts
    isplitl [Tv] <;> iassumption
  ihave HC := (Entails.of_eq (crd_all (F := F) c)) $$ [Tc Cc]
  · isplitl [Tc] <;> iassumption
  icases HD with ⟨D0, HD⟩
  isplitl [Hsl Hs Hr Hc Hrd]
  · isplitl [Hsl]; · iexact Hsl
    isplitl [Hs]; · iexact Hs
    isplitl [Hr]; · iexact Hr
    isplitl [Hc] <;> iassumption
  isplitl [Hb Cb Tl Tr]
  · isplitl [Hb]; · iexact Hb
    isplitl [Cb]; · iexact Cb
    isplitl [Tl] <;> iassumption
  isplitl [D0]; · iexact D0
  isplitl [HD HC Cr]
  · isplitl [HD]; · iexact HD
    isplitl [HC] <;> iassumption
  iexact C15

/-! ## The launch credit -/

theorem tallyL_paysMid (d : Dev nD) (n s : ℕ) :
    tallyL (paysMid d n s) = (∑ t ∈ Finset.Ico s (s + n), ∑ ρ : Fin 4, tallyAt (cell (succDev ρ d) (.rcv ρ (par (t + 1)))) (ixDat (t + 1) ρ) N)
      + ∑ t ∈ Finset.Ico s (s + n), ∑ ρ : Fin 4, tallyAt (cell (predDev ρ d) (.cred ρ)) (ixCred t ρ) 1 := by
  induction n generalizing s with
  | zero => rw [Nat.add_zero, Finset.Ico_self, Finset.sum_empty, Finset.sum_empty, add_zero]; rfl
  | succ n ih =>
    unfold paysMid
    rw [TalkSites.tallyL_append, ih (s + 1), sum_first (by omega : s < s + (n + 1)),
      sum_first (by omega : s < s + (n + 1)), show s + 1 + n = s + (n + 1) by omega]
    unfold payMid
    simp only [tallyL, Pay.tally, Fin.sum_univ_four]
    abel

theorem tallyL_pays (d : Dev nD) :
    tallyL (pays d) = tallyAt (cell (leftDev d) .bar) 1 1 + (tallyAt (cell (rightDev d) .bar) 1 1
      + ((∑ t ∈ Finset.range 15, ∑ ρ : Fin 4, tallyAt (cell (succDev ρ d) (.rcv ρ (par (t + 1)))) (ixDat (t + 1) ρ) N)
        + ∑ t ∈ Finset.Ico 1 15, ∑ ρ : Fin 4, tallyAt (cell (predDev ρ d) (.cred ρ)) (ixCred t ρ) 1)) := by
  rw [Finset.range_eq_Ico, sum_first (by decide : 0 < 15)]
  unfold pays
  rw [tallyL, tallyL, TalkSites.tallyL_append, tallyL_paysMid]
  unfold paysFirst
  simp only [tallyL, Pay.tally, Fin.sum_univ_four]
  abel

theorem launch_creds (c : Dev nD) :
    (bigSep (Finset.Ico 1 15) fun t => Pipeline.launchCred (fun d => ∑ ρ : Fin 4, tallyAt (cell (predDev ρ d) (.cred ρ)) (ixCred t ρ) 1) c : sProp 𝕄)
      ⊢ bigSep (Finset.Ico 1 15) fun t => bigSep Finset.univ fun ρ : Fin 4 => cred (tallyAt (cell c (.cred ρ)) (ixCred t ρ) 1) := by
  refine bigSep_mono fun t _ => ?_
  rw [Pipeline.launchCred_sum]
  exact bigSep_mono fun ρ _ =>
    Pipeline.launchCred_tallyAt (csem (.cred ρ)) (predDev ρ) (succDev ρ) (pred_succ ρ) (succ_pred ρ) (ixCred t ρ) 1 c

theorem launch_rcvs (c : Dev nD) :
    (bigSep (Finset.range 15) fun t => Pipeline.launchCred (fun d => ∑ ρ : Fin 4,
        tallyAt (cell (succDev ρ d) (.rcv ρ (par (t + 1)))) (ixDat (t + 1) ρ) N) c : sProp 𝕄)
      ⊢ bigSep (Finset.range 15) fun t => bigSep Finset.univ fun ρ : Fin 4 => rcvRes c ρ (t + 1) := by
  refine bigSep_mono fun t _ => ?_
  rw [Pipeline.launchCred_sum]
  exact bigSep_mono fun ρ _ =>
    Pipeline.launchCred_tallyAt (csem (.rcv ρ (par (t + 1)))) (succDev ρ) (predDev ρ) (succ_pred ρ) (pred_succ ρ) (ixDat (t + 1) ρ) N c

theorem launch_crds (c : Dev nD) : (Pipeline.launchCred (fun d => tallyL (pays d)) c : sProp 𝕄) ⊢ crds c := by
  have e : (fun d => tallyL (pays d)) = fun d : Dev nD => (tallyAt (cell (leftDev d) .bar) 1 1 + (tallyAt (cell (rightDev d) .bar) 1 1
      + ((∑ t ∈ Finset.range 15, ∑ ρ : Fin 4, tallyAt (cell (succDev ρ d) (.rcv ρ (par (t + 1)))) (ixDat (t + 1) ρ) N)
        + ∑ t ∈ Finset.Ico 1 15, ∑ ρ : Fin 4, tallyAt (cell (predDev ρ d) (.cred ρ)) (ixCred t ρ) 1)) : CellTallies nD τ sig ℕ) :=
    funext tallyL_pays
  rw [e, Pipeline.launchCred_add, Pipeline.launchCred_add, Pipeline.launchCred_add, Pipeline.launchCred_sum, Pipeline.launchCred_sum]
  unfold crds
  iintro ⟨H1, H2, HR, HC⟩
  ihave H1 := (Pipeline.launchCred_tallyAt (csem .bar) leftDev rightDev left_right right_left 1 1 c) $$ H1
  ihave H2 := (Pipeline.launchCred_tallyAt (csem .bar) rightDev leftDev right_left left_right 1 1 c) $$ H2
  isplitl [H1 H2]
  · rw [show (tallyAt (cell c .bar) 1 2 : CellTallies nD τ sig ℕ) = tallyAt (cell c .bar) 1 1 + tallyAt (cell c .bar) 1 1 from (tallyAt_add _ 1 1 1).symm]
    iapply (cred_add _ _).2
    isplitl [H1] <;> iassumption
  isplitl [HC]
  · iapply (launch_creds c)
    iexact HC
  · iapply (launch_rcvs c)
    iexact HR

/-! ## The ghost state dealt to the devices -/

section Deal

variable (A : Fin 4 → ℕ → Dev nD → FVec F S256x2048 .bf16)

/-- What all may use: that every cell is at its first round, and the slots' invariants. -/
def shared : sProp 𝕄 :=
  iprop((bigSep Finset.univ fun x : Dev nD × Kind => reached ER (cell x.1 x.2) 0)
    ∗ bigSep Finset.univ fun k : Key => iprop(∃ ι : ℕ, slotInv ES ι k (slotAny k.1 k.2.1 k.2.2)))
instance shared_persistent : BI.Persistent (shared (F := F)) := by unfold shared; infer_instance

/-- What the launch deals a device, before the cells' invariants are made. -/
def G (c : Dev nD) : sProp 𝕄 :=
  iprop((bigSep Finset.univ fun k : Kind => roundState ER (rd A) (cell c k) 0) ∗ shared ∗ linear c)

/-- After that: all cells' invariants in place of its round states. -/
def G' (c : Dev nD) : sProp 𝕄 :=
  iprop((bigSep Finset.univ fun x : Dev nD × Kind => iprop(∃ κ : ℕ, cellInv ER (rd A) κ (cell x.1 x.2))) ∗ shared ∗ linear c)

theorem bigSep_cells (Φ : GSem nD τ sig → sProp 𝕄) : bigSep ringCells Φ = bigSep Finset.univ fun x : Dev nD × Kind => Φ (cell x.1 x.2) := by
  unfold ringCells
  rw [bigSep_map]
  rfl

/-- The launch's ghost state is dealt out. -/
theorem deal : BI.own (EX (initOf ringCells ringToks, initSlots (Finset.univ : Finset Key) 8))
    ⊢ (|={Set.univ}=> bigSep Finset.univ (G A) : sProp 𝕄) := by
  iintro HX
  ihave H := (own_pair_emb EX _ _) $$ HX
  icases H with ⟨HR, HS⟩
  imod (Rounds.fund ER (rd A) ringCells ringToks) $$ HR with ⟨Hst, Hr, Hat, Htok⟩
  imod (slots_init ES (Finset.univ : Finset Key) 8 (fun k => (slotAny k.1 k.2.1 k.2.2 : sProp 𝕄))) $$ HS with ⟨%ιs, -, Hsl, Hrd, Hw⟩
  imodintro
  ihave Hst := (Entails.of_eq ((bigSep_cells fun g => roundState ER (rd A) g 0).trans (bigSep_univ_prod _))) $$ Hst
  ihave Hat := (Entails.of_eq ((bigSep_cells (F := F) fun g => atPos ER g 0 ∅ 0).trans (bigSep_univ_prod _))) $$ Hat
  ihave Hr := (Entails.of_eq (bigSep_cells (F := F) fun g => reached ER g 0)) $$ Hr
  ihave Htok := (Entails.of_eq (toks_eq (F := F))) $$ Htok
  ihave Hw := (writes_take (F := F)) $$ Hw
  ihave Hrd := (Entails.of_eq (bigSep_univ_prod (α := Dev nD) (β := Fin 4 × Fin 2) fun k => (readerAt ES k 0 : sProp 𝕄))) $$ Hrd
  ihave Hsl := (show (bigSep Finset.univ fun k : Key => (slotInv ES (ιs k) k (slotAny k.1 k.2.1 k.2.2) : sProp 𝕄))
      ⊢ bigSep Finset.univ fun k : Key => iprop(∃ ι : ℕ, slotInv ES ι k (slotAny k.1 k.2.1 k.2.2)) from
      bigSep_mono fun k _ => show (slotInv ES (ιs k) k (slotAny k.1 k.2.1 k.2.2) : sProp 𝕄)
        ⊢ iprop(∃ ι : ℕ, slotInv ES ι k (slotAny k.1 k.2.1 k.2.2)) from by iintro H; iexists (ιs k); iexact H) $$ Hsl
  unfold G
  rw [bigSep_sep']
  isplitl [Hst]; · iexact Hst
  iapply (BI.bigSep_with_persistent (R := shared) (Φ := fun c => linear c) fun c _ => BI.Entails.refl _)
  isplitl [Hr Hsl]
  · unfold shared
    isplitl [Hr] <;> iassumption
  unfold linear
  simp only [bigSep_sep']
  isplitl [Hat]; · iexact Hat
  isplitl [Hrd]; · iexact Hrd
  isplitl [Htok] <;> iassumption

/-- The semaphores of a launch: the kernel's own, -/
abbrev OwnIx : Type := Fin 4 ⊕ (Fin 4 × Fin 2) ⊕ (Fin 4 × Fin 2)
abbrev osem (k : OwnIx) : SemLoc sig := csem (kindEquiv (.inr k))

theorem ownSemFacts : Pipeline.OwnSemFacts cfg0.spec osem := by decide

/-- and the barrier, which outlives it. -/
theorem unscoped_eq (c : Dev nD) : (unscopedSems0 c : sProp 𝕄) = semVal (cell c .bar) 0 := by
  unfold unscopedSems0
  rw [bigSep_eq_bigSepL_of_eq [SemLoc.reg barSem] (by decide) (by decide)]
  rfl

theorem sems_eq (c : Dev nD) :
    (iprop(Pipeline.ownSems0 (Ix := ℕ) (Name := ℕ) (U := UU) (Lvl := ℕ) (Val := Elt F) (τ := τ) osem c ∗ unscopedSems0 c) : sProp 𝕄)
      ⊢ bigSep Finset.univ fun k : Kind => semVal (cell c k) 0 := by
  rw [unscoped_eq, bigSep_univ_equiv kindEquiv fun k => (semVal (cell c k) 0 : sProp 𝕄), BI.bigSep_univ_sum, Finset.univ_unique, bigSep_singleton]
  unfold Pipeline.ownSems0
  show _ ⊢ iprop(semVal (cell c .bar) 0 ∗ bigSep Finset.univ fun k : OwnIx => semVal (cell c (kindEquiv (.inr k))) 0)
  iintro ⟨Ho, Hu⟩
  isplitl [Hu]
  · iexact Hu
  · iexact Ho

/-- The invariants of a device's cells are made. -/
theorem core_alloc (c : Dev nD) :
    iprop(Pipeline.ownSems0 (Ix := ℕ) (Name := ℕ) (U := UU) (Lvl := ℕ) (Val := Elt F) (τ := τ) osem c ∗ unscopedSems0 c ∗ G A c)
      ⊢ |={Set.univ}=> iprop((bigSep Finset.univ fun k : Kind => iprop(∃ κ : ℕ, cellInv ER (rd A) κ (cell c k))) ∗ shared ∗ linear c) := by
  unfold G
  iintro ⟨Ho, Hu, Hst, Hrest⟩
  ihave Hv := (sems_eq (F := F) c) $$ [Ho Hu]
  · isplitl [Ho] <;> iassumption
  imod (show iprop((bigSep Finset.univ fun k : Kind => semVal (cell c k) 0) ∗ bigSep Finset.univ fun k : Kind => roundState ER (rd A) (cell c k) 0)
      ⊢ (|={Set.univ}=> bigSep Finset.univ fun k : Kind => iprop(∃ κ : ℕ, cellInv ER (rd A) κ (cell c k)) : sProp 𝕄) from by
        rw [← bigSep_sep']
        exact (bigSep_mono fun k _ => (Rounds.body_intro ER (rd A) (cell c k)).trans inv_alloc).trans (bigSep_fupd _ _)) $$ [Hv Hst] with Hinv
  · isplitl [Hv] <;> iassumption
  imodintro
  isplitl [Hinv] <;> iassumption

theorem regroup :
    (bigSep Finset.univ fun c : Dev nD =>
        iprop((bigSep Finset.univ fun k : Kind => iprop(∃ κ : ℕ, cellInv ER (rd A) κ (cell c k))) ∗ shared ∗ linear c) : sProp 𝕄)
      ⊢ bigSep Finset.univ (G' A) := by
  rw [bigSep_sep', ← bigSep_univ_prod fun x : Dev nD × Kind => (iprop(∃ κ : ℕ, cellInv ER (rd A) κ (cell x.1 x.2)) : sProp 𝕄)]
  exact BI.bigSep_with_persistent fun c _ => by unfold G'; exact BI.Entails.refl _

/-- All devices' at once, and each device knows of them all. -/
theorem glob :
    (bigSep Finset.univ fun c => iprop(Pipeline.ownSems0 (Ix := ℕ) (Name := ℕ) (U := UU) (Lvl := ℕ) (Val := Elt F) (τ := τ) osem c ∗ unscopedSems0 c ∗ G A c) : sProp 𝕄)
      ⊢ |={Set.univ}=> bigSep Finset.univ (G' A) := by
  exact ((bigSep_mono fun c _ => core_alloc A c).trans (bigSep_fupd _ _)).trans (BI.fupd_mono (regroup A))

end Deal

end Cert.KernelIdeal.Steps

end
-- ==== Proof.IdealLaunch.lean ====
/- The kernel's launch: the proof data, the body's obligation, and the run of all devices. -/
module

public import proofs.«01_k».proof.Proof.IdealDeal
public import proofs.«01_k».proof.Proof.Gen.KernelIdeal.Points
public import Idealize.ShloMosaic.Lib.Pipeline.ValueKit.Geometry
public import Idealize.ShloMosaic.Lib.Pipeline.CollectiveSegs

@[expose] public section

set_option maxRecDepth 16384

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites (Pay Pay.tally tallyL)
open Idealize.ShloMosaic.Pipeline (Dat Cfg Window BodyObligation cellOf)

variable {F : FTy → Type} [FloatOps F]

local notation "𝕄" => MT nD τ sig ℕ (Elt F) ℕ UU ℕ

/-! ## The output from its quarters -/

/-- The quarter of a column, and the place in it. -/
def quarter (i : S256x8192.Idx) : Fin 4 := ⟨(i 1).val / 2048, by have : (i 1).val < 8192 := (i 1).isLt; omega⟩
def inQuarter (i : S256x8192.Idx) : S256x2048.Idx := fun a => match a with
  | ⟨0, _⟩ => ⟨(i 0).val, (i 0).isLt⟩
  | ⟨1, _⟩ => ⟨(i 1).val % 2048, Nat.mod_lt _ (by decide)⟩

/-- The output block made of its four quarters. -/
def outOf (v : Fin 4 → FVec F S256x2048 .f32) : OC F := fun i => v (quarter i) (inQuarter i)

theorem col_emb_0 (ρ : Fin 4) (x : S256x2048.Idx) : (((oM).access (colRect ρ)).emb x (0 : Fin 2)).val = (x 0).val :=
  (ValueKit.view_emb_slice_whole_unit_val cc0_stg4_0 ![0, 2048 * ρ.val] S256x2048.size (inbCol ρ) x (0 : Fin 2)).trans (Nat.zero_add _)
theorem col_emb_1 (ρ : Fin 4) (x : S256x2048.Idx) : (((oM).access (colRect ρ)).emb x (1 : Fin 2)).val = 2048 * ρ.val + (x 1).val :=
  ValueKit.view_emb_slice_whole_unit_val cc0_stg4_0 ![0, 2048 * ρ.val] S256x2048.size (inbCol ρ) x (1 : Fin 2)

theorem put_same (ρ : Fin 4) (f : OC F) (v : FVec F S256x2048 .f32) (i : S256x8192.Idx) (h : quarter i = ρ) :
    put ρ f v i = v (inQuarter i) := by
  have e : ((oM).access (colRect ρ)).emb (inQuarter i) = i := by
    subst h
    funext a
    apply Fin.ext
    match a with
    | ⟨0, _⟩ => exact (col_emb_0 _ _).trans rfl
    | ⟨1, _⟩ => exact (col_emb_1 _ _).trans (Nat.div_add_mod (i 1).val 2048)
  have h := View.write_emb_of_mem (Val := Elt F) (v := (oM).access (colRect ρ)) f v (M := Finset.univ) (x := inQuarter i) (Finset.mem_univ _)
  rw [e] at h
  exact h

theorem put_other (ρ : Fin 4) (f : OC F) (v : FVec F S256x2048 .f32) (i : S256x8192.Idx) (h : quarter i ≠ ρ) : put ρ f v i = f i := by
  refine View.write_of_not_mem (Val := Elt F) (v := (oM).access (colRect ρ)) f v Finset.univ fun hm => h ?_
  obtain ⟨x, -, rfl⟩ := Finset.mem_map.mp hm
  apply Fin.ext
  refine (congrArg (· / 2048) (col_emb_1 ρ x)).trans ?_
  show (2048 * ρ.val + (x 1).val) / 2048 = ρ.val
  have : (x 1).val < 2048 := (x 1).isLt
  omega

/-- Whatever the output held, writing the four quarters makes it. -/
theorem fill_eq (f : OC F) (v : Fin 4 → FVec F S256x2048 .f32) : fill f v = outOf v := by
  funext i
  unfold fill outOf
  generalize hq : quarter i = q
  match q with
  | 0 =>
    rw [put_other 3 _ _ i (by rw [hq]; decide), put_other 2 _ _ i (by rw [hq]; decide), put_other 1 _ _ i (by rw [hq]; decide), put_same 0 _ _ i hq]
  | 1 => rw [put_other 3 _ _ i (by rw [hq]; decide), put_other 2 _ _ i (by rw [hq]; decide), put_same 1 _ _ i hq]
  | 2 => rw [put_other 3 _ _ i (by rw [hq]; decide), put_same 2 _ _ i hq]
  | 3 => rw [put_same 3 _ _ i hq]

/-! ## The slots are the whole landing buffer -/

theorem mem_slotSet (ρ : Fin 4) (b : Fin 2) (i : S4x2x256x2048.Idx) :
    i ∈ (slotM ρ b).view.set ↔ (i 0).val = ρ.val ∧ (i 1).val = b.val := by
  have e : (slotM ρ b).view.set = (slotRect ρ b).set := (slot_set ρ b).trans (View.set_slice_whole _ _)
  rw [e]
  refine (Rect.mem_set_unit (s := S4x2x256x2048) (off := ![ρ.val, b.val, 0, 0]) (size := S1x1x256x2048.size) (inb := inbSlot ρ b)).trans ⟨fun h => ?_, fun h a => ?_⟩
  · have h0 : ρ.val ≤ (i 0).val ∧ (i 0).val < ρ.val + 1 := h 0
    have h1 : b.val ≤ (i 1).val ∧ (i 1).val < b.val + 1 := h 1
    omega
  · match a with
    | ⟨0, _⟩ => show ρ.val ≤ (i 0).val ∧ (i 0).val < ρ.val + 1; omega
    | ⟨1, _⟩ => show b.val ≤ (i 1).val ∧ (i 1).val < b.val + 1; omega
    | ⟨2, _⟩ => show 0 ≤ (i 2).val ∧ (i 2).val < 0 + 256; have : (i 2).val < 256 := (i 2).isLt; omega
    | ⟨3, _⟩ => show 0 ≤ (i 3).val ∧ (i 3).val < 0 + 2048; have : (i 3).val < 2048 := (i 3).isLt; omega

/-- The slots' places, as a family. -/
def slotFam (y : Fin 4 × Fin 2) : Finset S4x2x256x2048.Idx := (slotM y.1 y.2).view.set

theorem slotFam_disjoint (y y' : Fin 4 × Fin 2) (h : y ≠ y') : Disjoint (slotFam y) (slotFam y') :=
  Finset.disjoint_left.mpr fun i hi hi' => h <| by
    obtain ⟨h1, h2⟩ := (mem_slotSet y.1 y.2 i).mp hi
    obtain ⟨h3, h4⟩ := (mem_slotSet y'.1 y'.2 i).mp hi'
    exact Prod.ext (Fin.ext (h1.symm.trans h3)) (Fin.ext (h2.symm.trans h4))

theorem slotFam_cover : Finset.univ.biUnion slotFam = Finset.univ :=
  Finset.eq_univ_iff_forall.mpr fun i => Finset.mem_biUnion.mpr
    ⟨(⟨(i 0).val, (i 0).isLt⟩, ⟨(i 1).val, (i 1).isLt⟩), Finset.mem_univ _, (mem_slotSet _ _ i).mpr ⟨rfl, rfl⟩⟩

/-- The landing buffer, whatever it holds. -/
def landing (c : Dev nD) : sProp 𝕄 := iprop(∃ f : Buf (Elt F) ((c : Thread nD τ).loc cc0_scratch0), ((c : Thread nD τ).loc cc0_scratch0) ↦{fullShare} f)

theorem slots_of (c : Dev nD) : landing c ⊢ (slots c : sProp 𝕄) := by
  unfold landing slots slotAny slot
  iintro ⟨%f, H⟩
  ihave H := (Entails.of_eq (Ring.pointsTo_blocks slotFam slotFam_disjoint slotFam_cover f)) $$ H
  iapply (show (bigSep Finset.univ fun y => (((c : Thread nD τ).loc cc0_scratch0) ↦[slotFam y]{fullShare} f : sProp 𝕄))
    ⊢ bigSep Finset.univ fun y : Fin 4 × Fin 2 => iprop(∃ g, slotLoc c y.1 y.2 ↦[(slotM y.1 y.2).view.set]{fullShare} g) from
    bigSep_mono fun y _ => show (((c : Thread nD τ).loc cc0_scratch0) ↦[slotFam y]{fullShare} f : sProp 𝕄)
      ⊢ iprop(∃ g, slotLoc c y.1 y.2 ↦[(slotM y.1 y.2).view.set]{fullShare} g) from by
      iintro H; iexists f; iexact H)
  iexact H

theorem slots_join (c : Dev nD) (f₀ : Buf (Elt F) ((c : Thread nD τ).loc cc0_scratch0)) : slots c ⊢ (landing c : sProp 𝕄) := by
  have h := Ring.pointsTo_blocks_join_exists (Ix := ℕ) (Name := ℕ) (U := UU) (Lvl := ℕ) (q := fullShare) slotFam slotFam_disjoint slotFam_cover f₀
  unfold slots slotAny slot landing
  exact h

/-! ## The proof data -/

section Launch

variable (m : (ℓ : Loc nD τ sig) → Buf (Elt F) ℓ) (ρ : Dev nD → PrngReg)

abbrev t₀ : Fin cfg0.N := t0_0

/-- The machine before the run. -/
abbrev s₀ : MemSt nD τ sig (Elt F) := ⟨m, fun _ => 0, ρ⟩

/-- What the operands' staging buffers hold. -/
def xIn (c : Dev nD) : XC F := (win0_0.blk (0 : Fin 1)).view.read (Elt F) (m ((c : Thread nD τ).loc main_arg0))
def wIn (c : Dev nD) : WC F := (win0_1.blk (0 : Fin 1)).view.read (Elt F) (m ((c : Thread nD τ).loc main_arg1))
def sxIn (c : Dev nD) : SC F := (win0_2.blk (0 : Fin 1)).view.read (Elt F) (m ((c : Thread nD τ).loc main_arg2))
def swIn (c : Dev nD) : TC F := (win0_3.blk (0 : Fin 1)).view.read (Elt F) (m ((c : Thread nD τ).loc main_arg3))

/-- What device `c` computes. -/
def res (c : Dev nD) : OC F := outOf (outAt (xIn m) (wIn m) (sxIn m c) (swIn m c) c)

/-- The matrices that the rings carry. -/
abbrev sent : Fin 4 → ℕ → Dev nD → FVec F S256x2048 .bf16 := acc (xIn m) (wIn m)

def Φ₀ (c : Dev nD) : sProp 𝕄 := iprop(records (sent m) ∗ DevStart c)

/-- The proof data of the one grid point. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => sxIn m c
    | ⟨3, _⟩ => swIn m c
    | ⟨4, _⟩ => res m c
  Φ t := match t with
    | ⟨0, _⟩ => Φ₀ m c
    | ⟨_ + 1, _⟩ => DevEnd c
  q _ := fullShare
  owed t := match t with
    | ⟨0, _⟩ => tallyL (pays c)
    | ⟨_ + 1, _⟩ => 0

theorem owns_whole (c : Dev nD) (b : Ref sig .tc) (v : b.ty.Contents (Elt F)) :
    (owns (Ix := ℕ) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns; simp only [Memref.view_whole, View.read_whole, View.set_whole]

/-- A staging buffer holding `v`. -/
def stg (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

theorem before_0 (c : Dev nD) (d) : (dats m ρ 0 c).before (0 : Fin 5) t₀ d = xIn m c := by
  unfold Dat.before; rw [if_pos (fetch0_0 t₀)]; rfl
theorem before_1 (c : Dev nD) (d) : (dats m ρ 0 c).before (1 : Fin 5) t₀ d = wIn m c := by
  unfold Dat.before; rw [if_pos (fetch0_1 t₀)]; rfl
theorem before_2 (c : Dev nD) (d) : (dats m ρ 0 c).before (2 : Fin 5) t₀ d = sxIn m c := by
  unfold Dat.before; rw [if_pos (fetch0_2 t₀)]; rfl
theorem before_3 (c : Dev nD) (d) : (dats m ρ 0 c).before (3 : Fin 5) t₀ d = swIn m c := by
  unfold Dat.before; rw [if_pos (fetch0_3 t₀)]; rfl

/-- What the body finds, and what it leaves. -/
def bodyPre (c : Dev nD) : sProp 𝕄 :=
  iprop(Φ₀ m c ∗ (dats m ρ 0 c).owesAt 0 t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(DevEnd c ∗ (dats m ρ 0 c).owesAt 0 t₀.succ
    ∗ stg c cc0_stg0_0 ((dats m ρ 0 c).after (0 : Fin 5) t₀)
    ∗ stg c cc0_stg1_0 ((dats m ρ 0 c).after (1 : Fin 5) t₀)
    ∗ stg c cc0_stg2_0 ((dats m ρ 0 c).after (2 : Fin 5) t₀)
    ∗ stg c cc0_stg3_0 ((dats m ρ 0 c).after (3 : Fin 5) t₀)
    ∗ stg c cc0_stg4_0 ((dats m ρ 0 c).after (4 : Fin 5) t₀))

theorem sound_body (c : Dev nD) : bodyPre m ρ c ⊢ Wp c body (fun _ => bodyPost m ρ c) := by
  unfold bodyPre Φ₀ stg
  iintro ⟨⟨#HR, HS⟩, Ho, ⟨%d0, %f0, %e0, H0⟩, ⟨%d1, %f1, %e1, H1⟩, ⟨%d2, %f2, %e2, H2⟩, ⟨%d3, %f3, %e3, H3⟩, ⟨%d4, %f4, %e4, H4⟩⟩
  rw [before_0] at e0
  rw [before_1] at e1
  rw [before_2] at e2
  rw [before_3] at e3
  subst e0 e1 e2 e3
  unfold Dat.owesAt Pipeline.owesWithin
  icases Ho with ⟨%V, %hV, HO⟩
  iapply (wp_body (xIn m) (wIn m) c (sxIn m c) (swIn m c) f4 (V := V)) $$ [HS H0 H1 H2 H3 H4 HO]
  · isplitr; · iexact HR
    isplitl [HS]; · iexact HS
    isplitl [H0 H1]
    · unfold opsXW
      isplitl [H0]; · iexact H0
      iexact H1
    isplitl [H2 H3]
    · unfold opsS
      isplitl [H2]; · iexact H2
      iexact H3
    isplitl [H4]; · unfold outIs; iexact H4
    iexact HO
  unfold opsXW opsS outIs bodyPost stg Dat.owesAt Pipeline.owesWithin
  iintro ⟨⟨%V', HO⟩, HE, ⟨H0, H1⟩, ⟨H2, H3⟩, H4⟩
  isplitl [HE]; · iexact HE
  isplitl [HO]
  · iexists V'
    isplitr; · (ipureintro; exact fun _ _ => Or.inl trivial)
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _
  isplitr
  rotate_left
  · iexact H4
  · ipureintro
    exact fill_eq _ _

/-- The pipeline's body is the kernel's. -/
theorem defs_body : (defs₀ (F := F) .tc cfg0.body (cfg0.bodyArgs t₀ (cfg0.slots t₀))) = body := by
  rw [← body_eq]
  rfl

theorem body_obligation (c : Dev nD) : BodyObligation (dats (F := F) m ρ 0 c) (defs₀ (F := F)) 𝒱₀ 0 Set.univ := fun t => by
  rw [fin_N0 t]
  rw [bigSep_W0, bigSep_W0]
  simp only [owns_whole]
  have h := sound_body m ρ c
  rw [← defs_body] at h
  have e1 : (dats m ρ 0 c).Φ t0_0.castSucc = Φ₀ m c := rfl
  have e2 : (dats m ρ 0 c).Φ t0_0.succ = DevEnd c := rfl
  unfold bodyPre bodyPost stg at h
  rw [e1, e2]
  rw [defs_body] at h
  convert h using 2
  · exact congrArg (wp frame (wpE (defs₀ (F := F)) 𝒱₀ (c : Thread nD τ) none) Set.univ) defs_body

/-! ## The launch -/

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), (initOf ringCells ringToks, initSlots (Finset.univ : Finset Key) 8))

/-- What a device enters the region with. -/
def start (c : Dev nD) : sProp 𝕄 := iprop(records (sent m) ∗ linear c ∗ crds c)

theorem start_intro (c : Dev nD) :
    iprop(Pipeline.unscopedRestP Pipeline.Prefetch.none cfg0.spec c (fun b => m ((c : Thread nD τ).loc b)) ∗ levAts L lv
        ∗ Pipeline.launchCred (fun d => tallyL (pays d)) c ∗ prngReg c (ρ c) ∗ G' (sent m) c)
      ⊢ |={Set.univ}=> iprop(start m c ∗ emp) := by
  iintro ⟨-, #Hlev, Hcr, -, HG⟩
  ihave Hc := (launch_crds (F := F) c) $$ Hcr
  imodintro
  unfold start G' records shared
  icases HG with ⟨#HI, ⟨#Hr, #Hs⟩, Hl⟩
  isplitl
  · isplitr
    · isplitr; · iexact HI
      isplitr; · iexact Hr
      isplitr; · iexact Hs
      iexact Hlev
    isplitl [Hl] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold start Φ₀
  iintro ⟨⟨#HR, Hl, Hc⟩, -, Hs⟩
  isplitr; · iexact HR
  iapply (start_of (F := F) c)
  isplitl [Hl]; · iexact Hl
  isplitl [Hc]; · iexact Hc
  iapply (slots_of (F := F) c)
  unfold landing
  iexact Hs

theorem ringEnd_all (c : Dev nD) :
    (bigSep Finset.univ fun ρ => RingEnd c ρ : sProp 𝕄)
      = iprop(slots c
        ∗ (bigSep Finset.univ fun ρ => iprop(semVal (cell c (.snd ρ 0)) 0 ∗ semVal (cell c (.snd ρ 1)) 0))
        ∗ (bigSep Finset.univ fun ρ => iprop(semVal (cell c (.rcv ρ 0)) 0 ∗ semVal (cell c (.rcv ρ 1)) 0))
        ∗ (bigSep Finset.univ fun ρ => semVal (cell c (.cred ρ)) 0)) := by
  unfold RingEnd slots
  rw [bigSep_pair]
  simp only [bigSep_sep']

theorem ownSems_eq (c : Dev nD) :
    (Pipeline.ownSems0 (Ix := ℕ) (Name := ℕ) (U := UU) (Lvl := ℕ) (Val := Elt F) (τ := τ) osem c : sProp 𝕄)
      = iprop((bigSep Finset.univ fun ρ => semVal (cell c (.cred ρ)) 0)
        ∗ (bigSep Finset.univ fun ρ => iprop(semVal (cell c (.snd ρ 0)) 0 ∗ semVal (cell c (.snd ρ 1)) 0))
        ∗ (bigSep Finset.univ fun ρ => iprop(semVal (cell c (.rcv ρ 0)) 0 ∗ semVal (cell c (.rcv ρ 1)) 0))) := by
  unfold Pipeline.ownSems0
  rw [BI.bigSep_univ_sum, BI.bigSep_univ_sum, bigSep_pair, bigSep_pair]
  rfl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = DevEnd c from rfl, scopedRest0_eq, ownSems_eq, unscoped_eq]
  unfold DevEnd
  rw [← bigSep_fin4 fun ρ => RingEnd c ρ, ringEnd_all]
  iintro ⟨⟨Hsl, Hs, Hr, Hc⟩, Hb⟩
  isplitl [Hb]; · iexact Hb
  isplitl [Hs Hr Hc]
  · isplitl [Hc]; · iexact Hc
    isplitl [Hs] <;> iassumption
  ihave H := (slots_join (F := F) c (m ((c : Thread nD τ).loc cc0_scratch0))) $$ Hsl
  unfold landing
  iexact H

theorem one_lt_NL : 1 < NL := by decide

theorem over_pays (c : Dev nD) : Over 0 (pays c) := by
  unfold pays
  exact over_cons ⟨rfl, Nat.zero_lt_one, one_lt_NL⟩ (over_cons ⟨rfl, Nat.zero_lt_one, one_lt_NL⟩ (over_mono (over_start c) (by decide)))

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · refine SiteBlocks.mayWait_of (by decide) c _ (tallyL (pays c)) fun g j h => ?_
      obtain ⟨x, hx, rfl, rfl⟩ := TalkSites.tallyL_pos h
      exact ⟨SiteBlocks.mem_L' (over_pays c x hx).1 (over_pays c x hx).2.2, (over_pays c x hx).2.1⟩
    · exact SiteBlocks.mayWait_of (by decide) c _ (0 : CellTallies nD τ sig ℕ) fun g j h => absurd h (Nat.lt_irrefl 0)

/-! ## The run -/

/-- What an array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with counters at zero, the sixteen devices' run terminates without fault, with every array as computed and
    every semaphore counter at zero. -/
theorem run_main : θ_run defs (onTc (τ := τ) (main (F := F))) (s₀ m ρ) (fun r => QC m ρ r ∧ r.2.sem = fun _ => 0) := by
  refine Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := fun d => tallyL (pays d)) (howed₀ := ?h1) (howedN := ?h2)
    (L := L) (lv := lv) (hL := SiteBlocks.hL NL) (hwaits := ?h3)
    (G := G (sent m)) (G' := G' (sent m)) (u₀ := u₀)
    (hu₀ := ?h4)
    (hglob := ?h5)
    (hA := ?h6) (hpf := fun _ k => k.elim0)
    (X := start m) (Y := fun c => unscopedSems0 c) (Z := fun _ => iprop(emp))
    (hX := ?h7) (hin := ?h8) (hout := ?h9)
    (QY := fun c s => ∀ sm : SemLoc sig, sm.isScoped .tc = false → s.sem ((c.tc : Thread nD τ), sm) = 0)
    (hY := ?h10)
    (hQ := ?h11)
  case h1 => exact fun _ => rfl
  case h2 => exact fun _ => rfl
  case h3 => exact waits m ρ
  case h4 =>
    unfold u₀
    iintro Hu
    ihave H := (ownU_pair _ _) $$ Hu
    icases H with ⟨HP, HX⟩
    imod (deal (sent m)) $$ HX with HG
    imodintro
    isplitl [HP] <;> iassumption
  case h5 => exact glob (sent m)
  case h6 => exact fun _ _ => rfl
  case h7 => exact start_intro m ρ
  case h8 => exact phi0_intro m ρ
  case h9 => exact phi1_exit m ρ
  case h10 =>
    intro c s'
    iintro ⟨Hu, -, HSI⟩
    iapply (Pipeline.unscopedSems0_read (X := unscopedSems0 c) (c := c) fupd_intro s')
    isplitl [Hu] <;> iassumption
  case h11 => exact fun _ h hs => ⟨fun c w => (h c).1 w, sem_eq_zero hs fun c => (h c).2.2⟩

/-- What the run leaves in the five arrays of a device: the arguments unchanged, the result as computed. -/
theorem run_arrays : θ_run defs (onTc (τ := τ) (main (F := F))) (s₀ m ρ) (fun r =>
    (∀ c : Dev nD, (win0_4.blk (0 : Fin 1)).view.read (Elt F) (r.2.mem ((c : Thread nD τ).loc main_v1)) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) := by
  refine (θ_run defs (onTc (τ := τ) (main (F := F))) _).mono (fun r h => ⟨fun c => ?_, h.2⟩) (run_main m ρ)
  refine ⟨?_, (h.1 c (0 : Fin 5)).trans ?_, (h.1 c (1 : Fin 5)).trans ?_, (h.1 c (2 : Fin 5)).trans ?_, (h.1 c (3 : Fin 5)).trans ?_⟩
  · refine (congrArg ((win0_4.blk (0 : Fin 1)).view.read (Elt F)) (h.1 c (4 : Fin 5))).trans ?_
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  · exact (dats (F := F) m ρ 0 c).arrAt_in (0 : Fin 5) rfl _
  · exact (dats (F := F) m ρ 0 c).arrAt_in (1 : Fin 5) rfl _
  · exact (dats (F := F) m ρ 0 c).arrAt_in (2 : Fin 5) rfl _
  · exact (dats (F := F) m ρ 0 c).arrAt_in (3 : Fin 5) rfl _

end Launch

end Cert.KernelIdeal.Steps

end
-- ==== Proof.IdealValue.lean ====
/- What the kernel computes, entry by entry: the shares of the sixteen devices, added round the ring. -/
module

public import proofs.«01_k».proof.Proof.IdealLaunch
public import Idealize.ShloMosaic.Lib.Pointwise

@[expose] public section

set_option maxRecDepth 16384

noncomputable section

namespace Cert.KernelIdeal.Steps

open Cert.KernelIdeal Cert.KernelIdeal.Gen
open Idealize.ShloMosaic
open Idealize.ShloMosaic.TcCoe

/-! ## One share -/

/-- The block of rows that ring `ρ` works on at step `s` on device `d`. -/
def chunk (ρ : Fin 4) (d : Dev nD) (s : ℕ) : Fin 16 :=
  if ρ.val < 2 then ⟨(d.val + 31 - s % 16) % 16, Nat.mod_lt _ (by decide)⟩
  else ⟨(d.val + s % 16 + 1) % 16, Nat.mod_lt _ (by decide)⟩

/-- Row `r` of block `h` of the rows. -/
def rowOf (h : Fin 16) (r : Fin 256) : Fin 4096 := ⟨256 * h.val + r.val, by have := h.isLt; have := r.isLt; omega⟩

/-- Column `q` of quarter `ρ` of the columns. -/
def colOf (ρ : Fin 4) (q : Fin 2048) : Fin 8192 := ⟨2048 * ρ.val + q.val, by have := ρ.isLt; have := q.isLt; omega⟩

/-- A number of the idealized arithmetic. -/
abbrev ereal (a : EReal) : EReal := a

/-- What a device with operands `X` and `W` adds to row block `h` in column `n`. -/
def share (X : XC Ideal) (W : WC Ideal) (h : Fin 16) (r : Fin 256) (n : Fin 8192) : EReal :=
  ∑ k : Fin 256, ereal (X (ix2 (rowOf h r) k)) * ereal (W (ix2 k n))

theorem x1At_apply (X : XC Ideal) (d : Dev nD) (s : ℕ) (ρ : Fin 4) (hρ : ρ.val < 2) (r k : Fin 256) :
    x1At X d s (ix2 r k) = X (ix2 (rowOf (chunk ρ d s) r) k) := by
  refine congrArg X (funext fun a => Fin.ext ?_)
  have e := k0_off1_eq d (pos s)
  have hc : (chunk ρ d s).val = (d.val + 31 - s % 16) % 16 := by unfold chunk; rw [if_pos hρ]
  match a with
  | ⟨0, _⟩ =>
    show k0_off1 d (BitVec.ofNat 32 (pos s).val) 0 + 1 * r.val = 256 * (chunk ρ d s).val + r.val
    rw [e, hc]
    show 256 * ((d.val + 31 - s % 16) % 16) + 1 * r.val = _
    omega
  | ⟨1, _⟩ =>
    show k0_off1 d (BitVec.ofNat 32 (pos s).val) 1 + 1 * k.val = k.val
    rw [e]
    show 0 + 1 * k.val = _
    omega

theorem x2At_apply (X : XC Ideal) (d : Dev nD) (s : ℕ) (ρ : Fin 4) (hρ : ¬ ρ.val < 2) (r k : Fin 256) :
    x2At X d s (ix2 r k) = X (ix2 (rowOf (chunk ρ d s) r) k) := by
  refine congrArg X (funext fun a => Fin.ext ?_)
  have e := k0_off2_eq d (pos s)
  have hc : (chunk ρ d s).val = (d.val + s % 16 + 1) % 16 := by unfold chunk; rw [if_neg hρ]
  match a with
  | ⟨0, _⟩ =>
    show k0_off2 d (BitVec.ofNat 32 (pos s).val) 0 + 1 * r.val = 256 * (chunk ρ d s).val + r.val
    rw [e, hc]
    show 256 * ((d.val + s % 16 + 1) % 16) + 1 * r.val = _
    omega
  | ⟨1, _⟩ =>
    show k0_off2 d (BitVec.ofNat 32 (pos s).val) 1 + 1 * k.val = k.val
    rw [e]
    show 0 + 1 * k.val = _
    omega

theorem wAt_apply (W : WC Ideal) (ρ : Fin 4) (k : Fin 256) (q : Fin 2048) :
    wAt W ρ (ix2 k q) = W (ix2 k (colOf ρ q)) := by
  refine congrArg W (funext fun a => Fin.ext ?_)
  match a with
  | ⟨0, _⟩ => show 0 + 1 * k.val = k.val; omega
  | ⟨1, _⟩ => show 2048 * ρ.val + 1 * q.val = 2048 * ρ.val + q.val; omega

/-- A block product, entry by entry. -/
theorem prod_apply (x : Vec Ideal S256x256 .fp8e4m3) (w : Vec Ideal S256x2048 .fp8e4m3) (j : S256x2048.Idx) :
    prod (F := Ideal) x w j = ∑ k : Fin 256, (x (ix2 (j 0) k) : EReal) * (w (ix2 k (j 1)) : EReal) := by
  unfold prod
  pointwise

/-- A step's product on a device is the device's share of the step's row block. -/
theorem prodAt_apply (X : XC Ideal) (W : WC Ideal) (d : Dev nD) (s : ℕ) (ρ : Fin 4) (j : S256x2048.Idx) :
    prodAt X W d s ρ j = share X W (chunk ρ d s) (j 0) (colOf ρ (j 1)) := by
  unfold prodAt share
  rw [prod_apply]
  refine Finset.sum_congr rfl fun k _ => ?_
  congr 1
  · split
    · exact x1At_apply X d s ρ ‹_› (j 0) k
    · exact x2At_apply X d s ρ ‹_› (j 0) k
  · exact wAt_apply W ρ k (j 1)

/-! ## The shares added round the ring -/

theorem leftDev_val (d : Dev nD) : (leftDev d).val = (d.val + 15) % 16 := by revert d; decide
theorem rightDev_val (d : Dev nD) : (rightDev d).val = (d.val + 1) % 16 := by revert d; decide

/-- A matrix keeps its row block as it travels. -/
theorem chunk_pred (ρ : Fin 4) (c : Dev nD) (t : ℕ) (ht : t < 15) : chunk ρ (predDev ρ c) t = chunk ρ c (t + 1) := by
  have hc : c.val < 16 := c.isLt
  unfold chunk predDev
  split
  · apply Fin.ext
    show ((leftDev c).val + 31 - t % 16) % 16 = (c.val + 31 - (t + 1) % 16) % 16
    rw [leftDev_val]; omega
  · apply Fin.ext
    show ((rightDev c).val + t % 16 + 1) % 16 = (c.val + (t + 1) % 16 + 1) % 16
    rw [rightDev_val]; omega

/-- After the last step a device holds its own row block. -/
theorem chunk_last (ρ : Fin 4) (c : Dev nD) : (chunk ρ c 15).val = c.val := by
  have hc : c.val < 16 := c.isLt
  unfold chunk
  split
  · show (c.val + 31 - 15 % 16) % 16 = c.val; omega
  · show (c.val + 15 % 16 + 1) % 16 = c.val; omega

variable (X : Dev nD → XC Ideal) (W : Dev nD → WC Ideal)

/-- The matrix on device `c` at step `t`: the shares of the last `t + 1` devices that it passed. -/
theorem acc_apply (ρ : Fin 4) (j : S256x2048.Idx) (t : ℕ) (ht : t < 15) (c : Dev nD) :
    (acc X W ρ t c j : EReal) = ∑ u ∈ Finset.range (t + 1),
      share (X ((predDev ρ)^[u] c)) (W ((predDev ρ)^[u] c)) (chunk ρ c t) (j 0) (colOf ρ (j 1)) := by
  induction t generalizing c with
  | zero =>
    rw [Finset.sum_range_one]
    exact prodAt_apply (X c) (W c) c 0 ρ j
  | succ t ih =>
    rw [Finset.sum_range_succ', ← chunk_pred ρ c t (by omega)]
    simp only [Function.iterate_succ_apply, Function.iterate_zero, id]
    rw [← ih (by omega) (predDev ρ c), chunk_pred ρ c t (by omega), ← prodAt_apply (X c) (W c) c (t + 1) ρ j]
    rfl

theorem iterate_inj (ρ : Fin 4) (c : Dev nD) : Function.Injective fun u : Fin 16 => (predDev ρ)^[u.val] c := by
  revert ρ c; decide

/-- Sixteen turns of a ring pass every device once. -/
theorem sum_ring (ρ : Fin 4) (c : Dev nD) (f : Dev nD → EReal) :
    ∑ u ∈ Finset.range 16, f ((predDev ρ)^[u] c) = ∑ d : Dev nD, f d := by
  rw [Finset.sum_range]
  exact Function.Bijective.sum_comp ((Fintype.bijective_iff_injective_and_card _).2 ⟨iterate_inj ρ c, rfl⟩) f

/-- A device's result: the shares of all devices in its own row block, times the product of the scales. -/
theorem outAt_apply (a : SC Ideal) (b : TC Ideal) (c : Dev nD) (ρ : Fin 4) (j : S256x2048.Idx) :
    (outAt X W a b c ρ j : EReal)
      = (∑ d : Dev nD, share (X d) (W d) c (j 0) (colOf ρ (j 1))) * (scaleAt a b : EReal) := by
  have hs : (∑ u ∈ Finset.range 16, share (X ((predDev ρ)^[u] c)) (W ((predDev ρ)^[u] c)) c (j 0) (colOf ρ (j 1)))
      = acc X W ρ 14 (predDev ρ c) j + prodAt (X c) (W c) c 15 ρ j := by
    rw [acc_apply X W ρ j 14 (by decide), prodAt_apply, chunk_pred ρ c 14 (by decide),
      show chunk ρ c 15 = c from Fin.ext (chunk_last ρ c), Finset.sum_range_succ']
    rfl
  rw [← sum_ring ρ c fun d => share (X d) (W d) c (j 0) (colOf ρ (j 1)), hs]
  rfl

end Cert.KernelIdeal.Steps

end
-- ==== Proof.RefValue.lean ====
/- The reference's result, entry by entry: the product of the two matrices times the product of the two scales. -/
module

public import proofs.«01_k».proof.Proof.Gen.ReferenceIdeal.Value
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.ReferenceIdeal.Plain

open Cert.ReferenceIdeal Cert.ReferenceIdeal.Gen Cert.ReferenceIdeal.Value
open Idealize.ShloMosaic Idealize.ShloMosaic.TcCoe Idealize.SL.Sem
open Idealize.ShloMosaic.Pipeline (Dat)

/-- The one place of a scale's array. -/
def word0 : S1.Idx := fun a => match a with | ⟨0, _⟩ => (0 : Fin 1)

/-- The matrix product of the two arrays, each entry times the product of the two scales. -/
def scaledProd (x : Vec Ideal S4096x4096 .fp8e4m3) (w : Vec Ideal S4096x8192 .fp8e4m3) (sx sw : Vec Ideal S1 .f32) :
    Vec Ideal S4096x8192 .f32 := fun i =>
  (∑ l : Fin 4096, (x (ix2 (i 0) l) : EReal) * (w (ix2 l (i 1)) : EReal)) * ((sx word0 : EReal) * (sw word0 : EReal))

/-- What the body stores is that product. -/
theorem pay_eq (x : Vec Ideal S4096x4096 .fp8e4m3) (w : Vec Ideal S4096x8192 .fp8e4m3) (sx sw : Vec Ideal S1 .f32) :
    k0_pay1 (F := Ideal) x w (sx word0) (sw word0) = scaledProd x w sx sw := by
  funext i
  unfold scaledProd
  pointwise [k0_pay1]

/-- The one grid point. -/
abbrev pt : Fin cfg0.N := (0 : Fin 1)

/-- The result's window is the whole array, written back at the one grid point. -/
theorem whole4 : (cfg0.win 4).WholeAt pt := ⟨flush0_4 pt, fun t _ => Fin.ext (by have : t.val < 1 := t.isLt; show t.val = 0; omega), (by decide +kernel : ∀ a : Fin 2, _)⟩

variable (m : (ℓ : Loc nD τ sig) → Buf (Elt Ideal) ℓ) (ρ : Dev nD → PrngReg)

/-! The block of an argument's window is the argument. -/

theorem iblk0_eq (c : Dev nD) : iblk m c 0 pt = m ((c : Thread nD τ).loc main_arg0) := by
  refine Eq.trans (funext fun j => congrArg (V m c main_arg0) (funext fun a => Fin.ext ?_)) (V_main_arg0 m c)
  exact Pipeline.Window.rect_emb_val_of_index_zero win0_0 pt a ((by decide +kernel : ∀ a : Fin 2, win0_0.index pt a = 0) a) j
theorem iblk1_eq (c : Dev nD) : iblk m c 1 pt = m ((c : Thread nD τ).loc main_arg1) := by
  refine Eq.trans (funext fun j => congrArg (V m c main_arg1) (funext fun a => Fin.ext ?_)) (V_main_arg1 m c)
  exact Pipeline.Window.rect_emb_val_of_index_zero win0_1 pt a ((by decide +kernel : ∀ a : Fin 2, win0_1.index pt a = 0) a) j
theorem iblk2_eq (c : Dev nD) : iblk m c 2 pt = m ((c : Thread nD τ).loc main_arg2) := by
  refine Eq.trans (funext fun j => congrArg (V m c main_arg2) (funext fun a => Fin.ext ?_)) (V_main_arg2 m c)
  exact Pipeline.Window.rect_emb_val_of_index_zero win0_2 pt a ((by decide +kernel : ∀ a : Fin 1, win0_2.index pt a = 0) a) j
theorem iblk3_eq (c : Dev nD) : iblk m c 3 pt = m ((c : Thread nD τ).loc main_arg3) := by
  refine Eq.trans (funext fun j => congrArg (V m c main_arg3) (funext fun a => Fin.ext ?_)) (V_main_arg3 m c)
  exact Pipeline.Window.rect_emb_val_of_index_zero win0_3 pt a ((by decide +kernel : ∀ a : Fin 1, win0_3.index pt a = 0) a) j

/-- After the run the result array is the scaled product of the arguments. -/
theorem final (c : Dev nD) : (dats m 0 c).arrAt 4 cfg0.N
    = scaledProd (m ((c : Thread nD τ).loc main_arg0)) (m ((c : Thread nD τ).loc main_arg1))
        (m ((c : Thread nD τ).loc main_arg2)) (m ((c : Thread nD τ).loc main_arg3)) := by
  refine (dats m 0 c).arrAt_eq_of_after_last 4 pt whole4 _ (fun j => ?_)
  blk_simp
  rw [after0_4]
  unfold outsAt0
  frame_out
  rw [← pay_eq, ← iblk0_eq m c, ← iblk1_eq m c, ← iblk2_eq m c, ← iblk3_eq m c]
  have e0 := (hs0_0 pt).read_unread (iblk m c 0 pt)
  have e1 := (hs0_1 pt).read_unread (iblk m c 1 pt)
  have e2 := (hs0_2 pt).read_unread (iblk m c 2 pt)
  have e3 := (hs0_3 pt).read_unread (iblk m c 3 pt)
  refine congrFun ?_ j
  exact congr (congr (congr (congrArg k0_pay1 e0) e1) ((congrFun e2 _).trans (congrArg (iblk m c 2 pt) (funext fun a => by match a with | ⟨0, _⟩ => rfl))))
    ((congrFun e3 _).trans (congrArg (iblk m c 3 pt) (funext fun a => by match a with | ⟨0, _⟩ => rfl)))

/-- The reference's run: the result holds the scaled product of the arguments, the arguments are unchanged. -/
theorem run : θ_run defs (onTc (τ := τ) (main (F := Ideal))) ⟨m, fun _ => 0, ρ⟩ fun r => ∀ c : Dev nD,
      r.2.mem ((c : Thread nD τ).loc main_v0)
        = scaledProd (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.ReferenceIdeal.Plain

end
-- ==== Proof.IdealMatch.lean ====
/- The kernel's result on a device is the device's block of the reference's result. -/
module

public import proofs.«01_k».proof.Proof.IdealValue
public import proofs.«01_k».proof.Proof.RefValue
public import Idealize.ShloMosaic.Lib.Layout
public import proofs.«01_k».proof.Defs

@[expose] public section

set_option maxRecDepth 16384

noncomputable section

namespace Cert.KernelIdeal.Steps

open Cert.KernelIdeal Cert.KernelIdeal.Gen
open Idealize.ShloMosaic
open Idealize.ShloMosaic.TcCoe
open Idealize.SL.Sem
open Cert.ReferenceIdeal.Plain (scaledProd word0)

/-! ## The windows are whole arrays: what is read through one is the array -/

section Whole
variable (m : (ℓ : Loc nD τ sig) → Buf (Elt Ideal) ℓ) (c : Dev nD)

theorem xIn_eq : xIn m c = m ((c : Thread nD τ).loc main_arg0) :=
  funext fun j => congrArg (m ((c : Thread nD τ).loc main_arg0)) (funext fun a => Fin.ext
    (Pipeline.Window.rect_emb_val_of_index_zero win0_0 (0 : Fin 1) a ((by decide +kernel : ∀ a : Fin 2, win0_0.index (0 : Fin 1) a = 0) a) j))
theorem wIn_eq : wIn m c = m ((c : Thread nD τ).loc main_arg1) :=
  funext fun j => congrArg (m ((c : Thread nD τ).loc main_arg1)) (funext fun a => Fin.ext
    (Pipeline.Window.rect_emb_val_of_index_zero win0_1 (0 : Fin 1) a ((by decide +kernel : ∀ a : Fin 2, win0_1.index (0 : Fin 1) a = 0) a) j))
theorem sxIn_eq : sxIn m c = m ((c : Thread nD τ).loc main_arg2) :=
  funext fun j => congrArg (m ((c : Thread nD τ).loc main_arg2)) (funext fun a => Fin.ext
    (Pipeline.Window.rect_emb_val_of_index_zero win0_2 (0 : Fin 1) a ((by decide +kernel : ∀ a : Fin 1, win0_2.index (0 : Fin 1) a = 0) a) j))
theorem swIn_eq : swIn m c = m ((c : Thread nD τ).loc main_arg3) :=
  funext fun j => congrArg (m ((c : Thread nD τ).loc main_arg3)) (funext fun a => Fin.ext
    (Pipeline.Window.rect_emb_val_of_index_zero win0_3 (0 : Fin 1) a ((by decide +kernel : ∀ a : Fin 1, win0_3.index (0 : Fin 1) a = 0) a) j))
theorem result_read (f : Buf (Elt Ideal) ((c : Thread nD τ).loc main_v1)) : (win0_4.blk (0 : Fin 1)).view.read (Elt Ideal) f = f :=
  funext fun j => congrArg f (funext fun a => Fin.ext
    (Pipeline.Window.rect_emb_val_of_index_zero win0_4 (0 : Fin 1) a ((by decide +kernel : ∀ a : Fin 2, win0_4.index (0 : Fin 1) a = 0) a) j))

end Whole

/-! ## The sum over the devices is the sum over the whole contraction -/

/-- Place `k` of block `d` of the contracted axis. -/
def lineOf (d : Fin 16) (k : Fin 256) : Fin 4096 := ⟨d.val * 256 + k.val, by have := d.isLt; have := k.isLt; omega⟩

/-- Summing block by block is summing along the whole axis. -/
theorem sum_blocks (f : Fin 4096 → EReal) : ∑ d : Fin 16, ∑ k : Fin 256, f (lineOf d k) = ∑ l : Fin 4096, f l := by
  rw [← Fintype.sum_prod_type' (f := fun d k => f (lineOf d k))]
  refine Fintype.sum_equiv (finProdFinEquiv (m := 16) (n := 256)) _ _ fun p => congrArg f (Fin.ext ?_)
  show p.1.val * 256 + p.2.val = p.2.val + 256 * p.1.val
  omega

/-- The scale that the kernel reads is the product of the two words. -/
theorem scaleAt_eq (a : SC Ideal) (b : TC Ideal) : scaleAt a b = ereal (a word0) * ereal (b word0) :=
  congrArg₂ (· * ·) (congrArg a (funext fun e => by match e with | ⟨0, _⟩ => rfl))
    (congrArg b (funext fun e => by match e with | ⟨0, _⟩ => rfl))

variable (x : (⟨2, ![4096, 4096]⟩ : Shape).Idx → EReal) (w : (⟨2, ![4096, 8192]⟩ : Shape).Idx → EReal)

/-- The device's result out of the blocks of the two arrays is its block of the scaled product. -/
theorem res_block (a : SC Ideal) (b : TC Ideal) (c : Dev nD) :
    outOf (outAt (F := Ideal) (fun d => Layout.block ⟨2, ![4096, 256]⟩ ⟨2, ![4096, 4096]⟩ 1 16 d x)
        (fun d => Layout.block ⟨2, ![256, 8192]⟩ ⟨2, ![4096, 8192]⟩ 0 16 d w) a b c)
      = Layout.block ⟨2, ![256, 8192]⟩ ⟨2, ![4096, 8192]⟩ 0 16 c (scaledProd x w a b) := by
  funext i
  refine (outAt_apply _ _ a b c (quarter i) (inQuarter i)).trans ?_
  rw [scaleAt_eq]
  refine congrArg (· * (ereal (a word0) * ereal (b word0))) ?_
  refine Eq.trans (Finset.sum_congr rfl fun d _ => ?_) (sum_blocks _)
  refine Finset.sum_congr rfl fun k _ => ?_
  refine congrArg₂ (· * ·) (congrArg x (funext fun e => Fin.ext ?_)) (congrArg w (funext fun e => Fin.ext ?_))
  · match e with
    | ⟨0, _⟩ => show 256 * c.val + (i 0).val = c.val * 256 + (i 0).val; omega
    | ⟨1, _⟩ => rfl
  · match e with
    | ⟨0, _⟩ => rfl
    | ⟨1, _⟩ => show 2048 * ((i 1).val / 2048) + (i 1).val % 2048 = (i 1).val; omega

/-- The kernel computes the reference: out of the blocks of the same arguments every device ends with its block of the
    reference's result, and both programs leave their arguments as they were. -/
theorem agrees : Cert.algebraic_KernelIdeal_ReferenceIdeal (hKernelIdeal := Cert.KernelIdeal.Gen.facts)
    (hReferenceIdeal := Cert.ReferenceIdeal.Gen.facts) := by
  intro m g m' g' _ hin
  refine ⟨scaledProd (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run _ _ _).mono (fun r h c => ⟨?_, (h.1 c).2⟩) (run_arrays (F := Ideal) m g)
    refine (result_read c _).symm.trans ((h.1 c).1.trans ?_)
    have hx : xIn m = fun d => Layout.block ⟨2, ![4096, 256]⟩ ⟨2, ![4096, 4096]⟩ 1 16 d _ :=
      funext fun d => (xIn_eq m d).trans (hin d).1
    have hw : wIn m = fun d => Layout.block ⟨2, ![256, 8192]⟩ ⟨2, ![4096, 8192]⟩ 0 16 d _ :=
      funext fun d => (wIn_eq m d).trans (hin d).2.1
    have ha := (sxIn_eq m c).trans (hin c).2.2.1
    have hb := (swIn_eq m c).trans (hin c).2.2.2
    unfold res
    rw [hx, hw, ha, hb]
    exact res_block _ _ _ _ c
  · exact (θ_run _ _ _).mono (fun r h => h 0) (Cert.ReferenceIdeal.Plain.run m' g')

end Cert.KernelIdeal.Steps

end
-- ==== Proof.lean ====
/- The claims of this directory, put together from the proofs of the kernel's run and of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.FloatLaunch
public import proofs.«01_k».proof.Proof.IdealLaunch
public import proofs.«01_k».proof.Proof.IdealMatch
public import Idealize.ShloMosaic.Adequacy
public import Idealize.ShloMosaic.Init

@[expose] public section

noncomputable section

namespace Cert.Proof

open Idealize.ShloMosaic Idealize.SL.Sem Cert.Kernel

/-- The kernel terminates, leaves its arguments as they were and every semaphore at zero. -/
theorem kernel_frame : Cert.quiescent_Kernel (hKernel := Cert.Kernel.Gen.facts) := fun m g _ =>
  (θ_run _ _ _).mono (fun _ h => ⟨fun c => (h.1 c).2, h.2⟩) (Cert.Kernel.Steps.run_arrays (F := Bits) m g)

/-- So does its reading over the reals. -/
theorem kernelIdeal_frame : Cert.quiescent_KernelIdeal (hKernelIdeal := Cert.KernelIdeal.Gen.facts) := fun m g _ =>
  (θ_run _ _ _).mono (fun _ h => ⟨fun c => (h.1 c).2, h.2⟩) (Cert.KernelIdeal.Steps.run_arrays (F := Ideal) m g)

/-- Everything that is claimed. -/
theorem claim : Cert.Claim := ⟨Cert.Kernel.Gen.facts, Cert.KernelIdeal.Gen.facts, Cert.ReferenceIdeal.Gen.facts,
  kernel_frame, kernelIdeal_frame, fun m g _ => Cert.ReferenceIdeal.Gen.frame m g, trivial,
  Cert.KernelIdeal.Steps.agrees⟩

end Cert.Proof

end
